-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 1024]⟩ ⟨2, ![1024, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x32 : Shape := ⟨2, ![1024, 32]⟩
abbrev S32x1024 : Shape := ⟨2, ![32, 1024]⟩
abbrev S32x32x1024 : Shape := ⟨3, ![32, 32, 1024]⟩
abbrev S16x32x1024 : Shape := ⟨3, ![16, 32, 1024]⟩
abbrev S15x32x1024 : Shape := ⟨3, ![15, 32, 1024]⟩
abbrev S16 : Shape := ⟨1, ![16]⟩
abbrev S15 : Shape := ⟨1, ![15]⟩
abbrev S_ : Shape := ⟨0, ![]⟩
abbrev S32x32 : Shape := ⟨2, ![32, 32]⟩
abbrev S1x32x1024 : Shape := ⟨3, ![1, 32, 1024]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S1024x32, .bf16⟩
  | .hbm, ⟨1, _⟩ => ⟨S32x1024, .bf16⟩
  | .hbm, ⟨2, _⟩ => ⟨S32x1024, .f32⟩
  | .local _ .vmem, ⟨0, _⟩ => ⟨S1024x32, .bf16⟩
  | .local _ .vmem, ⟨1, _⟩ => ⟨S32x1024, .bf16⟩
  | .local _ .vmem, ⟨2, _⟩ => ⟨S32x1024, .f32⟩
  | .local _ .vmem, ⟨3, _⟩ => ⟨S32x32x1024, .bf16⟩
  | .local _ .vmem, ⟨4, _⟩ => ⟨S16x32x1024, .bf16⟩
  | .local _ .vmem, ⟨5, _⟩ => ⟨S16x32x1024, .bf16⟩
  | .local _ .vmem, ⟨6, _⟩ => ⟨S15x32x1024, .bf16⟩
  | _, _ => ⟨S1024x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_6 : BitVec 32 := 1#32
  let v14 : BitVec 32 := Scalar.muli v11 c1_i32_6
  let v15 : BitVec 32 := Scalar.addi c0_i32 v14
  v15.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c1_i32_7 : BitVec 32 := 1#32
  let v16 : BitVec 32 := Scalar.addi v10 c1_i32_7
  let c16_i32 : BitVec 32 := 16#32
  let v17 : BitVec 32 := Scalar.remsi v16 c16_i32
  let c2_i32 : BitVec 32 := 2#32
  let v18 : BitVec 32 := Scalar.shrsi v17 c2_i32
  let c8_i32 : BitVec 32 := 8#32
  let v24 : BitVec 32 := Scalar.muli v18 c8_i32
  let c2_i32_12 : BitVec 32 := 2#32
  let c3_i32_8 : BitVec 32 := 3#32
  let v19 : BitVec 32 := Scalar.andi v17 c3_i32_8
  let v25 : BitVec 32 := Scalar.muli c2_i32_12 v19
  let v26 : BitVec 32 := Scalar.addi v24 v25
  let c1_i32_9 : BitVec 32 := 1#32
  let v20 : BitVec 32 := Scalar.andi v19 c1_i32_9
  let c0_i32_10 : BitVec 32 := 0#32
  let v21 : BitVec 1 := Scalar.cmpi .eq v20 c0_i32_10
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_11 : BitVec 32 := 1#32
  let v22 : BitVec 32 := Scalar.subi c1_i32_11 v5
  let v23 : BitVec 32 := Scalar.select v21 v5 v22
  let v27 : BitVec 32 := Scalar.addi v26 v23
  let c1_i32_14 : BitVec 32 := 1#32
  let v28 : BitVec 32 := Scalar.muli v27 c1_i32_14
  let v29 : BitVec 32 := Scalar.addi c0_i32_15 v28
  v29.toNat
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c2_i32_16 : BitVec 32 := 2#32
  let v30 : BitVec 32 := Scalar.addi v10 c2_i32_16
  let c16_i32_17 : BitVec 32 := 16#32
  let v31 : BitVec 32 := Scalar.remsi v30 c16_i32_17
  let c2_i32_18 : BitVec 32 := 2#32
  let v32 : BitVec 32 := Scalar.shrsi v31 c2_i32_18
  let c8_i32_23 : BitVec 32 := 8#32
  let v38 : BitVec 32 := Scalar.muli v32 c8_i32_23
  let c2_i32_24 : BitVec 32 := 2#32
  let c3_i32_19 : BitVec 32 := 3#32
  let v33 : BitVec 32 := Scalar.andi v31 c3_i32_19
  let v39 : BitVec 32 := Scalar.muli c2_i32_24 v33
  let v40 : BitVec 32 := Scalar.addi v38 v39
  let c1_i32_20 : BitVec 32 := 1#32
  let v34 : BitVec 32 := Scalar.andi v33 c1_i32_20
  let c0_i32_21 : BitVec 32 := 0#32
  let v35 : BitVec 1 := Scalar.cmpi .eq v34 c0_i32_21
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_22 : BitVec 32 := 1#32
  let v36 : BitVec 32 := Scalar.subi c1_i32_22 v5
  let v37 : BitVec 32 := Scalar.select v35 v5 v36
  let v41 : BitVec 32 := Scalar.addi v40 v37
  let c1_i32_26 : BitVec 32 := 1#32
  let v42 : BitVec 32 := Scalar.muli v41 c1_i32_26
  let v43 : BitVec 32 := Scalar.addi c0_i32_27 v42
  v43.toNat
def k0_dev4 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c3_i32_28 : BitVec 32 := 3#32
  let v44 : BitVec 32 := Scalar.addi v10 c3_i32_28
  let c16_i32_29 : BitVec 32 := 16#32
  let v45 : BitVec 32 := Scalar.remsi v44 c16_i32_29
  let c2_i32_30 : BitVec 32 := 2#32
  let v46 : BitVec 32 := Scalar.shrsi v45 c2_i32_30
  let c8_i32_35 : BitVec 32 := 8#32
  let v52 : BitVec 32 := Scalar.muli v46 c8_i32_35
  let c2_i32_36 : BitVec 32 := 2#32
  let c3_i32_31 : BitVec 32 := 3#32
  let v47 : BitVec 32 := Scalar.andi v45 c3_i32_31
  let v53 : BitVec 32 := Scalar.muli c2_i32_36 v47
  let v54 : BitVec 32 := Scalar.addi v52 v53
  let c1_i32_32 : BitVec 32 := 1#32
  let v48 : BitVec 32 := Scalar.andi v47 c1_i32_32
  let c0_i32_33 : BitVec 32 := 0#32
  let v49 : BitVec 1 := Scalar.cmpi .eq v48 c0_i32_33
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_34 : BitVec 32 := 1#32
  let v50 : BitVec 32 := Scalar.subi c1_i32_34 v5
  let v51 : BitVec 32 := Scalar.select v49 v5 v50
  let v55 : BitVec 32 := Scalar.addi v54 v51
  let c1_i32_38 : BitVec 32 := 1#32
  let v56 : BitVec 32 := Scalar.muli v55 c1_i32_38
  let v57 : BitVec 32 := Scalar.addi c0_i32_39 v56
  v57.toNat
def k0_dev5 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c4_i32_40 : BitVec 32 := 4#32
  let v58 : BitVec 32 := Scalar.addi v10 c4_i32_40
  let c16_i32_41 : BitVec 32 := 16#32
  let v59 : BitVec 32 := Scalar.remsi v58 c16_i32_41
  let c2_i32_42 : BitVec 32 := 2#32
  let v60 : BitVec 32 := Scalar.shrsi v59 c2_i32_42
  let c8_i32_47 : BitVec 32 := 8#32
  let v66 : BitVec 32 := Scalar.muli v60 c8_i32_47
  let c2_i32_48 : BitVec 32 := 2#32
  let c3_i32_43 : BitVec 32 := 3#32
  let v61 : BitVec 32 := Scalar.andi v59 c3_i32_43
  let v67 : BitVec 32 := Scalar.muli c2_i32_48 v61
  let v68 : BitVec 32 := Scalar.addi v66 v67
  let c1_i32_44 : BitVec 32 := 1#32
  let v62 : BitVec 32 := Scalar.andi v61 c1_i32_44
  let c0_i32_45 : BitVec 32 := 0#32
  let v63 : BitVec 1 := Scalar.cmpi .eq v62 c0_i32_45
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_46 : BitVec 32 := 1#32
  let v64 : BitVec 32 := Scalar.subi c1_i32_46 v5
  let v65 : BitVec 32 := Scalar.select v63 v5 v64
  let v69 : BitVec 32 := Scalar.addi v68 v65
  let c1_i32_50 : BitVec 32 := 1#32
  let v70 : BitVec 32 := Scalar.muli v69 c1_i32_50
  let v71 : BitVec 32 := Scalar.addi c0_i32_51 v70
  v71.toNat
def k0_dev6 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c5_i32 : BitVec 32 := 5#32
  let v72 : BitVec 32 := Scalar.addi v10 c5_i32
  let c16_i32_52 : BitVec 32 := 16#32
  let v73 : BitVec 32 := Scalar.remsi v72 c16_i32_52
  let c2_i32_53 : BitVec 32 := 2#32
  let v74 : BitVec 32 := Scalar.shrsi v73 c2_i32_53
  let c8_i32_58 : BitVec 32 := 8#32
  let v80 : BitVec 32 := Scalar.muli v74 c8_i32_58
  let c2_i32_59 : BitVec 32 := 2#32
  let c3_i32_54 : BitVec 32 := 3#32
  let v75 : BitVec 32 := Scalar.andi v73 c3_i32_54
  let v81 : BitVec 32 := Scalar.muli c2_i32_59 v75
  let v82 : BitVec 32 := Scalar.addi v80 v81
  let c1_i32_55 : BitVec 32 := 1#32
  let v76 : BitVec 32 := Scalar.andi v75 c1_i32_55
  let c0_i32_56 : BitVec 32 := 0#32
  let v77 : BitVec 1 := Scalar.cmpi .eq v76 c0_i32_56
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_57 : BitVec 32 := 1#32
  let v78 : BitVec 32 := Scalar.subi c1_i32_57 v5
  let v79 : BitVec 32 := Scalar.select v77 v5 v78
  let v83 : BitVec 32 := Scalar.addi v82 v79
  let c1_i32_61 : BitVec 32 := 1#32
  let v84 : BitVec 32 := Scalar.muli v83 c1_i32_61
  let v85 : BitVec 32 := Scalar.addi c0_i32_62 v84
  v85.toNat
def k0_dev7 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c6_i32 : BitVec 32 := 6#32
  let v86 : BitVec 32 := Scalar.addi v10 c6_i32
  let c16_i32_63 : BitVec 32 := 16#32
  let v87 : BitVec 32 := Scalar.remsi v86 c16_i32_63
  let c2_i32_64 : BitVec 32 := 2#32
  let v88 : BitVec 32 := Scalar.shrsi v87 c2_i32_64
  let c8_i32_69 : BitVec 32 := 8#32
  let v94 : BitVec 32 := Scalar.muli v88 c8_i32_69
  let c2_i32_70 : BitVec 32 := 2#32
  let c3_i32_65 : BitVec 32 := 3#32
  let v89 : BitVec 32 := Scalar.andi v87 c3_i32_65
  let v95 : BitVec 32 := Scalar.muli c2_i32_70 v89
  let v96 : BitVec 32 := Scalar.addi v94 v95
  let c1_i32_66 : BitVec 32 := 1#32
  let v90 : BitVec 32 := Scalar.andi v89 c1_i32_66
  let c0_i32_67 : BitVec 32 := 0#32
  let v91 : BitVec 1 := Scalar.cmpi .eq v90 c0_i32_67
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_68 : BitVec 32 := 1#32
  let v92 : BitVec 32 := Scalar.subi c1_i32_68 v5
  let v93 : BitVec 32 := Scalar.select v91 v5 v92
  let v97 : BitVec 32 := Scalar.addi v96 v93
  let c1_i32_72 : BitVec 32 := 1#32
  let v98 : BitVec 32 := Scalar.muli v97 c1_i32_72
  let v99 : BitVec 32 := Scalar.addi c0_i32_73 v98
  v99.toNat
def k0_dev8 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c7_i32_74 : BitVec 32 := 7#32
  let v100 : BitVec 32 := Scalar.addi v10 c7_i32_74
  let c16_i32_75 : BitVec 32 := 16#32
  let v101 : BitVec 32 := Scalar.remsi v100 c16_i32_75
  let c2_i32_76 : BitVec 32 := 2#32
  let v102 : BitVec 32 := Scalar.shrsi v101 c2_i32_76
  let c8_i32_81 : BitVec 32 := 8#32
  let v108 : BitVec 32 := Scalar.muli v102 c8_i32_81
  let c2_i32_82 : BitVec 32 := 2#32
  let c3_i32_77 : BitVec 32 := 3#32
  let v103 : BitVec 32 := Scalar.andi v101 c3_i32_77
  let v109 : BitVec 32 := Scalar.muli c2_i32_82 v103
  let v110 : BitVec 32 := Scalar.addi v108 v109
  let c1_i32_78 : BitVec 32 := 1#32
  let v104 : BitVec 32 := Scalar.andi v103 c1_i32_78
  let c0_i32_79 : BitVec 32 := 0#32
  let v105 : BitVec 1 := Scalar.cmpi .eq v104 c0_i32_79
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_80 : BitVec 32 := 1#32
  let v106 : BitVec 32 := Scalar.subi c1_i32_80 v5
  let v107 : BitVec 32 := Scalar.select v105 v5 v106
  let v111 : BitVec 32 := Scalar.addi v110 v107
  let c1_i32_84 : BitVec 32 := 1#32
  let v112 : BitVec 32 := Scalar.muli v111 c1_i32_84
  let v113 : BitVec 32 := Scalar.addi c0_i32_85 v112
  v113.toNat
def k0_dev9 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c8_i32_86 : BitVec 32 := 8#32
  let v114 : BitVec 32 := Scalar.addi v10 c8_i32_86
  let c16_i32_87 : BitVec 32 := 16#32
  let v115 : BitVec 32 := Scalar.remsi v114 c16_i32_87
  let c2_i32_88 : BitVec 32 := 2#32
  let v116 : BitVec 32 := Scalar.shrsi v115 c2_i32_88
  let c8_i32_93 : BitVec 32 := 8#32
  let v122 : BitVec 32 := Scalar.muli v116 c8_i32_93
  let c2_i32_94 : BitVec 32 := 2#32
  let c3_i32_89 : BitVec 32 := 3#32
  let v117 : BitVec 32 := Scalar.andi v115 c3_i32_89
  let v123 : BitVec 32 := Scalar.muli c2_i32_94 v117
  let v124 : BitVec 32 := Scalar.addi v122 v123
  let c1_i32_90 : BitVec 32 := 1#32
  let v118 : BitVec 32 := Scalar.andi v117 c1_i32_90
  let c0_i32_91 : BitVec 32 := 0#32
  let v119 : BitVec 1 := Scalar.cmpi .eq v118 c0_i32_91
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_92 : BitVec 32 := 1#32
  let v120 : BitVec 32 := Scalar.subi c1_i32_92 v5
  let v121 : BitVec 32 := Scalar.select v119 v5 v120
  let v125 : BitVec 32 := Scalar.addi v124 v121
  let c1_i32_96 : BitVec 32 := 1#32
  let v126 : BitVec 32 := Scalar.muli v125 c1_i32_96
  let v127 : BitVec 32 := Scalar.addi c0_i32_97 v126
  v127.toNat
def k0_dev10 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c9_i32 : BitVec 32 := 9#32
  let v128 : BitVec 32 := Scalar.addi v10 c9_i32
  let c16_i32_98 : BitVec 32 := 16#32
  let v129 : BitVec 32 := Scalar.remsi v128 c16_i32_98
  let c2_i32_99 : BitVec 32 := 2#32
  let v130 : BitVec 32 := Scalar.shrsi v129 c2_i32_99
  let c8_i32_104 : BitVec 32 := 8#32
  let v136 : BitVec 32 := Scalar.muli v130 c8_i32_104
  let c2_i32_105 : BitVec 32 := 2#32
  let c3_i32_100 : BitVec 32 := 3#32
  let v131 : BitVec 32 := Scalar.andi v129 c3_i32_100
  let v137 : BitVec 32 := Scalar.muli c2_i32_105 v131
  let v138 : BitVec 32 := Scalar.addi v136 v137
  let c1_i32_101 : BitVec 32 := 1#32
  let v132 : BitVec 32 := Scalar.andi v131 c1_i32_101
  let c0_i32_102 : BitVec 32 := 0#32
  let v133 : BitVec 1 := Scalar.cmpi .eq v132 c0_i32_102
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_103 : BitVec 32 := 1#32
  let v134 : BitVec 32 := Scalar.subi c1_i32_103 v5
  let v135 : BitVec 32 := Scalar.select v133 v5 v134
  let v139 : BitVec 32 := Scalar.addi v138 v135
  let c1_i32_107 : BitVec 32 := 1#32
  let v140 : BitVec 32 := Scalar.muli v139 c1_i32_107
  let v141 : BitVec 32 := Scalar.addi c0_i32_108 v140
  v141.toNat
def k0_dev11 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c10_i32 : BitVec 32 := 10#32
  let v142 : BitVec 32 := Scalar.addi v10 c10_i32
  let c16_i32_109 : BitVec 32 := 16#32
  let v143 : BitVec 32 := Scalar.remsi v142 c16_i32_109
  let c2_i32_110 : BitVec 32 := 2#32
  let v144 : BitVec 32 := Scalar.shrsi v143 c2_i32_110
  let c8_i32_115 : BitVec 32 := 8#32
  let v150 : BitVec 32 := Scalar.muli v144 c8_i32_115
  let c2_i32_116 : BitVec 32 := 2#32
  let c3_i32_111 : BitVec 32 := 3#32
  let v145 : BitVec 32 := Scalar.andi v143 c3_i32_111
  let v151 : BitVec 32 := Scalar.muli c2_i32_116 v145
  let v152 : BitVec 32 := Scalar.addi v150 v151
  let c1_i32_112 : BitVec 32 := 1#32
  let v146 : BitVec 32 := Scalar.andi v145 c1_i32_112
  let c0_i32_113 : BitVec 32 := 0#32
  let v147 : BitVec 1 := Scalar.cmpi .eq v146 c0_i32_113
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_114 : BitVec 32 := 1#32
  let v148 : BitVec 32 := Scalar.subi c1_i32_114 v5
  let v149 : BitVec 32 := Scalar.select v147 v5 v148
  let v153 : BitVec 32 := Scalar.addi v152 v149
  let c1_i32_118 : BitVec 32 := 1#32
  let v154 : BitVec 32 := Scalar.muli v153 c1_i32_118
  let v155 : BitVec 32 := Scalar.addi c0_i32_119 v154
  v155.toNat
def k0_dev12 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c11_i32 : BitVec 32 := 11#32
  let v156 : BitVec 32 := Scalar.addi v10 c11_i32
  let c16_i32_120 : BitVec 32 := 16#32
  let v157 : BitVec 32 := Scalar.remsi v156 c16_i32_120
  let c2_i32_121 : BitVec 32 := 2#32
  let v158 : BitVec 32 := Scalar.shrsi v157 c2_i32_121
  let c8_i32_126 : BitVec 32 := 8#32
  let v164 : BitVec 32 := Scalar.muli v158 c8_i32_126
  let c2_i32_127 : BitVec 32 := 2#32
  let c3_i32_122 : BitVec 32 := 3#32
  let v159 : BitVec 32 := Scalar.andi v157 c3_i32_122
  let v165 : BitVec 32 := Scalar.muli c2_i32_127 v159
  let v166 : BitVec 32 := Scalar.addi v164 v165
  let c1_i32_123 : BitVec 32 := 1#32
  let v160 : BitVec 32 := Scalar.andi v159 c1_i32_123
  let c0_i32_124 : BitVec 32 := 0#32
  let v161 : BitVec 1 := Scalar.cmpi .eq v160 c0_i32_124
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_125 : BitVec 32 := 1#32
  let v162 : BitVec 32 := Scalar.subi c1_i32_125 v5
  let v163 : BitVec 32 := Scalar.select v161 v5 v162
  let v167 : BitVec 32 := Scalar.addi v166 v163
  let c1_i32_129 : BitVec 32 := 1#32
  let v168 : BitVec 32 := Scalar.muli v167 c1_i32_129
  let v169 : BitVec 32 := Scalar.addi c0_i32_130 v168
  v169.toNat
def k0_dev13 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c12_i32 : BitVec 32 := 12#32
  let v170 : BitVec 32 := Scalar.addi v10 c12_i32
  let c16_i32_131 : BitVec 32 := 16#32
  let v171 : BitVec 32 := Scalar.remsi v170 c16_i32_131
  let c2_i32_132 : BitVec 32 := 2#32
  let v172 : BitVec 32 := Scalar.shrsi v171 c2_i32_132
  let c8_i32_137 : BitVec 32 := 8#32
  let v178 : BitVec 32 := Scalar.muli v172 c8_i32_137
  let c2_i32_138 : BitVec 32 := 2#32
  let c3_i32_133 : BitVec 32 := 3#32
  let v173 : BitVec 32 := Scalar.andi v171 c3_i32_133
  let v179 : BitVec 32 := Scalar.muli c2_i32_138 v173
  let v180 : BitVec 32 := Scalar.addi v178 v179
  let c1_i32_134 : BitVec 32 := 1#32
  let v174 : BitVec 32 := Scalar.andi v173 c1_i32_134
  let c0_i32_135 : BitVec 32 := 0#32
  let v175 : BitVec 1 := Scalar.cmpi .eq v174 c0_i32_135
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_136 : BitVec 32 := 1#32
  let v176 : BitVec 32 := Scalar.subi c1_i32_136 v5
  let v177 : BitVec 32 := Scalar.select v175 v5 v176
  let v181 : BitVec 32 := Scalar.addi v180 v177
  let c1_i32_140 : BitVec 32 := 1#32
  let v182 : BitVec 32 := Scalar.muli v181 c1_i32_140
  let v183 : BitVec 32 := Scalar.addi c0_i32_141 v182
  v183.toNat
def k0_dev14 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c13_i32 : BitVec 32 := 13#32
  let v184 : BitVec 32 := Scalar.addi v10 c13_i32
  let c16_i32_142 : BitVec 32 := 16#32
  let v185 : BitVec 32 := Scalar.remsi v184 c16_i32_142
  let c2_i32_143 : BitVec 32 := 2#32
  let v186 : BitVec 32 := Scalar.shrsi v185 c2_i32_143
  let c8_i32_148 : BitVec 32 := 8#32
  let v192 : BitVec 32 := Scalar.muli v186 c8_i32_148
  let c2_i32_149 : BitVec 32 := 2#32
  let c3_i32_144 : BitVec 32 := 3#32
  let v187 : BitVec 32 := Scalar.andi v185 c3_i32_144
  let v193 : BitVec 32 := Scalar.muli c2_i32_149 v187
  let v194 : BitVec 32 := Scalar.addi v192 v193
  let c1_i32_145 : BitVec 32 := 1#32
  let v188 : BitVec 32 := Scalar.andi v187 c1_i32_145
  let c0_i32_146 : BitVec 32 := 0#32
  let v189 : BitVec 1 := Scalar.cmpi .eq v188 c0_i32_146
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_147 : BitVec 32 := 1#32
  let v190 : BitVec 32 := Scalar.subi c1_i32_147 v5
  let v191 : BitVec 32 := Scalar.select v189 v5 v190
  let v195 : BitVec 32 := Scalar.addi v194 v191
  let c1_i32_151 : BitVec 32 := 1#32
  let v196 : BitVec 32 := Scalar.muli v195 c1_i32_151
  let v197 : BitVec 32 := Scalar.addi c0_i32_152 v196
  v197.toNat
def k0_dev15 (d0 : Dev nD) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c14_i32 : BitVec 32 := 14#32
  let v198 : BitVec 32 := Scalar.addi v10 c14_i32
  let c16_i32_153 : BitVec 32 := 16#32
  let v199 : BitVec 32 := Scalar.remsi v198 c16_i32_153
  let c2_i32_154 : BitVec 32 := 2#32
  let v200 : BitVec 32 := Scalar.shrsi v199 c2_i32_154
  let c8_i32_159 : BitVec 32 := 8#32
  let v206 : BitVec 32 := Scalar.muli v200 c8_i32_159
  let c2_i32_160 : BitVec 32 := 2#32
  let c3_i32_155 : BitVec 32 := 3#32
  let v201 : BitVec 32 := Scalar.andi v199 c3_i32_155
  let v207 : BitVec 32 := Scalar.muli c2_i32_160 v201
  let v208 : BitVec 32 := Scalar.addi v206 v207
  let c1_i32_156 : BitVec 32 := 1#32
  let v202 : BitVec 32 := Scalar.andi v201 c1_i32_156
  let c0_i32_157 : BitVec 32 := 0#32
  let v203 : BitVec 1 := Scalar.cmpi .eq v202 c0_i32_157
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_158 : BitVec 32 := 1#32
  let v204 : BitVec 32 := Scalar.subi c1_i32_158 v5
  let v205 : BitVec 32 := Scalar.select v203 v5 v204
  let v209 : BitVec 32 := Scalar.addi v208 v205
  let c1_i32_162 : BitVec 32 := 1#32
  let v210 : BitVec 32 := Scalar.muli v209 c1_i32_162
  let v211 : BitVec 32 := Scalar.addi c0_i32_163 v210
  v211.toNat
def k0_dev16 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c15_i32 : BitVec 32 := 15#32
  let v212 : BitVec 32 := Scalar.addi v10 c15_i32
  let c16_i32_164 : BitVec 32 := 16#32
  let v213 : BitVec 32 := Scalar.remsi v212 c16_i32_164
  let c2_i32_165 : BitVec 32 := 2#32
  let v214 : BitVec 32 := Scalar.shrsi v213 c2_i32_165
  let c8_i32_170 : BitVec 32 := 8#32
  let v220 : BitVec 32 := Scalar.muli v214 c8_i32_170
  let c2_i32_171 : BitVec 32 := 2#32
  let c3_i32_166 : BitVec 32 := 3#32
  let v215 : BitVec 32 := Scalar.andi v213 c3_i32_166
  let v221 : BitVec 32 := Scalar.muli c2_i32_171 v215
  let v222 : BitVec 32 := Scalar.addi v220 v221
  let c1_i32_167 : BitVec 32 := 1#32
  let v216 : BitVec 32 := Scalar.andi v215 c1_i32_167
  let c0_i32_168 : BitVec 32 := 0#32
  let v217 : BitVec 1 := Scalar.cmpi .eq v216 c0_i32_168
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_169 : BitVec 32 := 1#32
  let v218 : BitVec 32 := Scalar.subi c1_i32_169 v5
  let v219 : BitVec 32 := Scalar.select v217 v5 v218
  let v223 : BitVec 32 := Scalar.addi v222 v219
  let c1_i32_173 : BitVec 32 := 1#32
  let v224 : BitVec 32 := Scalar.muli v223 c1_i32_173
  let v225 : BitVec 32 := Scalar.addi c0_i32_174 v224
  v225.toNat
def k0_off1 (d0 : Dev nD) (c0_i32_368 : BitVec 32) : Fin 3 → Nat :=
  let c1_i32_4 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let v12 : BitVec 32 := Scalar.subi c1_i32_4 v5
  let c16_i32_370 : BitVec 32 := 16#32
  let v516 : BitVec 32 := Scalar.muli v12 c16_i32_370
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let v514 : BitVec 32 := Scalar.addi v10 c0_i32_368
  let c16_i32_369 : BitVec 32 := 16#32
  let v515 : BitVec 32 := Scalar.remsi v514 c16_i32_369
  let v517 : BitVec 32 := Scalar.addi v516 v515
  let c0_i32_378 : BitVec 32 := 0#32
  let c0_i32_379 : BitVec 32 := 0#32
  ![v517.toNat, 0, 0]
def k0_dev17 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_374 : BitVec 32 := 1#32
  let v518 : BitVec 32 := Scalar.muli v11 c1_i32_374
  let v519 : BitVec 32 := Scalar.addi c0_i32_375 v518
  v519.toNat
def k0_dev18 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_386 : BitVec 32 := 1#32
  let v532 : BitVec 32 := Scalar.muli v11 c1_i32_386
  let v533 : BitVec 32 := Scalar.addi c0_i32_387 v532
  v533.toNat
def k0_dev19 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_398 : BitVec 32 := 1#32
  let v546 : BitVec 32 := Scalar.muli v11 c1_i32_398
  let v547 : BitVec 32 := Scalar.addi c0_i32_399 v546
  v547.toNat
def k0_dev20 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_410 : BitVec 32 := 1#32
  let v560 : BitVec 32 := Scalar.muli v11 c1_i32_410
  let v561 : BitVec 32 := Scalar.addi c0_i32_411 v560
  v561.toNat
def k0_dev21 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_422 : BitVec 32 := 1#32
  let v574 : BitVec 32 := Scalar.muli v11 c1_i32_422
  let v575 : BitVec 32 := Scalar.addi c0_i32_423 v574
  v575.toNat
def k0_dev22 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_434 : BitVec 32 := 1#32
  let v588 : BitVec 32 := Scalar.muli v11 c1_i32_434
  let v589 : BitVec 32 := Scalar.addi c0_i32_435 v588
  v589.toNat
def k0_dev23 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_446 : BitVec 32 := 1#32
  let v602 : BitVec 32 := Scalar.muli v11 c1_i32_446
  let v603 : BitVec 32 := Scalar.addi c0_i32_447 v602
  v603.toNat
def k0_dev24 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_458 : BitVec 32 := 1#32
  let v616 : BitVec 32 := Scalar.muli v11 c1_i32_458
  let v617 : BitVec 32 := Scalar.addi c0_i32_459 v616
  v617.toNat
def k0_dev25 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_470 : BitVec 32 := 1#32
  let v630 : BitVec 32 := Scalar.muli v11 c1_i32_470
  let v631 : BitVec 32 := Scalar.addi c0_i32_471 v630
  v631.toNat
def k0_dev26 (d0 : Dev nD) : Nat :=
  let c0_i32_483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_482 : BitVec 32 := 1#32
  let v644 : BitVec 32 := Scalar.muli v11 c1_i32_482
  let v645 : BitVec 32 := Scalar.addi c0_i32_483 v644
  v645.toNat
def k0_dev27 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_494 : BitVec 32 := 1#32
  let v658 : BitVec 32 := Scalar.muli v11 c1_i32_494
  let v659 : BitVec 32 := Scalar.addi c0_i32_495 v658
  v659.toNat
def k0_dev28 (d0 : Dev nD) : Nat :=
  let c0_i32_507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_506 : BitVec 32 := 1#32
  let v672 : BitVec 32 := Scalar.muli v11 c1_i32_506
  let v673 : BitVec 32 := Scalar.addi c0_i32_507 v672
  v673.toNat
def k0_dev29 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_518 : BitVec 32 := 1#32
  let v686 : BitVec 32 := Scalar.muli v11 c1_i32_518
  let v687 : BitVec 32 := Scalar.addi c0_i32_519 v686
  v687.toNat
def k0_dev30 (d0 : Dev nD) : Nat :=
  let c0_i32_531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_530 : BitVec 32 := 1#32
  let v700 : BitVec 32 := Scalar.muli v11 c1_i32_530
  let v701 : BitVec 32 := Scalar.addi c0_i32_531 v700
  v701.toNat
def k0_dev31 (d0 : Dev nD) : Nat :=
  let c0_i32_543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_542 : BitVec 32 := 1#32
  let v714 : BitVec 32 := Scalar.muli v11 c1_i32_542
  let v715 : BitVec 32 := Scalar.addi c0_i32_543 v714
  v715.toNat
def k0_dev32 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v11 : BitVec 32 := Scalar.xori v2 c1_i32_3
  let c1_i32_554 : BitVec 32 := 1#32
  let v728 : BitVec 32 := Scalar.muli v11 c1_i32_554
  let v729 : BitVec 32 := Scalar.addi c0_i32_555 v728
  v729.toNat
def k0_off2 (d0 : Dev nD) (c1_i32_560 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c16_i32_571 : BitVec 32 := 16#32
  let v748 : BitVec 32 := Scalar.muli v5 c16_i32_571
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let v738 : BitVec 32 := Scalar.addi v10 c1_i32_560
  let c16_i32_561 : BitVec 32 := 16#32
  let v739 : BitVec 32 := Scalar.remsi v738 c16_i32_561
  let v749 : BitVec 32 := Scalar.addi v748 v739
  let v750 : Index := Scalar.indexCast v749
  let c0_572 : Index := 0#32
  let c0_573 : Index := 0#32
  ![v750.toNat, 0, 0]
def k0_dev33 (d0 : Dev nD) : Nat :=
  let c0_i32_592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c1_i32_560 : BitVec 32 := 1#32
  let v738 : BitVec 32 := Scalar.addi v10 c1_i32_560
  let c16_i32_561 : BitVec 32 := 16#32
  let v739 : BitVec 32 := Scalar.remsi v738 c16_i32_561
  let c2_i32_580 : BitVec 32 := 2#32
  let v762 : BitVec 32 := Scalar.shrsi v739 c2_i32_580
  let c8_i32_585 : BitVec 32 := 8#32
  let v768 : BitVec 32 := Scalar.muli v762 c8_i32_585
  let c2_i32_586 : BitVec 32 := 2#32
  let c3_i32_581 : BitVec 32 := 3#32
  let v763 : BitVec 32 := Scalar.andi v739 c3_i32_581
  let v769 : BitVec 32 := Scalar.muli c2_i32_586 v763
  let v770 : BitVec 32 := Scalar.addi v768 v769
  let c1_i32_582 : BitVec 32 := 1#32
  let v764 : BitVec 32 := Scalar.andi v763 c1_i32_582
  let c0_i32_583 : BitVec 32 := 0#32
  let v765 : BitVec 1 := Scalar.cmpi .eq v764 c0_i32_583
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_584 : BitVec 32 := 1#32
  let v766 : BitVec 32 := Scalar.subi c1_i32_584 v5
  let v767 : BitVec 32 := Scalar.select v765 v5 v766
  let v771 : BitVec 32 := Scalar.addi v770 v767
  let c1_i32_591 : BitVec 32 := 1#32
  let v772 : BitVec 32 := Scalar.muli v771 c1_i32_591
  let v773 : BitVec 32 := Scalar.addi c0_i32_592 v772
  v773.toNat
def k0_dev34 (d0 : Dev nD) : Nat :=
  let c0_i32_629 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c2_i32_597 : BitVec 32 := 2#32
  let v782 : BitVec 32 := Scalar.addi v10 c2_i32_597
  let c16_i32_598 : BitVec 32 := 16#32
  let v783 : BitVec 32 := Scalar.remsi v782 c16_i32_598
  let c2_i32_617 : BitVec 32 := 2#32
  let v806 : BitVec 32 := Scalar.shrsi v783 c2_i32_617
  let c8_i32_622 : BitVec 32 := 8#32
  let v812 : BitVec 32 := Scalar.muli v806 c8_i32_622
  let c2_i32_623 : BitVec 32 := 2#32
  let c3_i32_618 : BitVec 32 := 3#32
  let v807 : BitVec 32 := Scalar.andi v783 c3_i32_618
  let v813 : BitVec 32 := Scalar.muli c2_i32_623 v807
  let v814 : BitVec 32 := Scalar.addi v812 v813
  let c1_i32_619 : BitVec 32 := 1#32
  let v808 : BitVec 32 := Scalar.andi v807 c1_i32_619
  let c0_i32_620 : BitVec 32 := 0#32
  let v809 : BitVec 1 := Scalar.cmpi .eq v808 c0_i32_620
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_621 : BitVec 32 := 1#32
  let v810 : BitVec 32 := Scalar.subi c1_i32_621 v5
  let v811 : BitVec 32 := Scalar.select v809 v5 v810
  let v815 : BitVec 32 := Scalar.addi v814 v811
  let c1_i32_628 : BitVec 32 := 1#32
  let v816 : BitVec 32 := Scalar.muli v815 c1_i32_628
  let v817 : BitVec 32 := Scalar.addi c0_i32_629 v816
  v817.toNat
def k0_dev35 (d0 : Dev nD) : Nat :=
  let c0_i32_666 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c3_i32_634 : BitVec 32 := 3#32
  let v826 : BitVec 32 := Scalar.addi v10 c3_i32_634
  let c16_i32_635 : BitVec 32 := 16#32
  let v827 : BitVec 32 := Scalar.remsi v826 c16_i32_635
  let c2_i32_654 : BitVec 32 := 2#32
  let v850 : BitVec 32 := Scalar.shrsi v827 c2_i32_654
  let c8_i32_659 : BitVec 32 := 8#32
  let v856 : BitVec 32 := Scalar.muli v850 c8_i32_659
  let c2_i32_660 : BitVec 32 := 2#32
  let c3_i32_655 : BitVec 32 := 3#32
  let v851 : BitVec 32 := Scalar.andi v827 c3_i32_655
  let v857 : BitVec 32 := Scalar.muli c2_i32_660 v851
  let v858 : BitVec 32 := Scalar.addi v856 v857
  let c1_i32_656 : BitVec 32 := 1#32
  let v852 : BitVec 32 := Scalar.andi v851 c1_i32_656
  let c0_i32_657 : BitVec 32 := 0#32
  let v853 : BitVec 1 := Scalar.cmpi .eq v852 c0_i32_657
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_658 : BitVec 32 := 1#32
  let v854 : BitVec 32 := Scalar.subi c1_i32_658 v5
  let v855 : BitVec 32 := Scalar.select v853 v5 v854
  let v859 : BitVec 32 := Scalar.addi v858 v855
  let c1_i32_665 : BitVec 32 := 1#32
  let v860 : BitVec 32 := Scalar.muli v859 c1_i32_665
  let v861 : BitVec 32 := Scalar.addi c0_i32_666 v860
  v861.toNat
def k0_dev36 (d0 : Dev nD) : Nat :=
  let c0_i32_703 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c4_i32_671 : BitVec 32 := 4#32
  let v870 : BitVec 32 := Scalar.addi v10 c4_i32_671
  let c16_i32_672 : BitVec 32 := 16#32
  let v871 : BitVec 32 := Scalar.remsi v870 c16_i32_672
  let c2_i32_691 : BitVec 32 := 2#32
  let v894 : BitVec 32 := Scalar.shrsi v871 c2_i32_691
  let c8_i32_696 : BitVec 32 := 8#32
  let v900 : BitVec 32 := Scalar.muli v894 c8_i32_696
  let c2_i32_697 : BitVec 32 := 2#32
  let c3_i32_692 : BitVec 32 := 3#32
  let v895 : BitVec 32 := Scalar.andi v871 c3_i32_692
  let v901 : BitVec 32 := Scalar.muli c2_i32_697 v895
  let v902 : BitVec 32 := Scalar.addi v900 v901
  let c1_i32_693 : BitVec 32 := 1#32
  let v896 : BitVec 32 := Scalar.andi v895 c1_i32_693
  let c0_i32_694 : BitVec 32 := 0#32
  let v897 : BitVec 1 := Scalar.cmpi .eq v896 c0_i32_694
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_695 : BitVec 32 := 1#32
  let v898 : BitVec 32 := Scalar.subi c1_i32_695 v5
  let v899 : BitVec 32 := Scalar.select v897 v5 v898
  let v903 : BitVec 32 := Scalar.addi v902 v899
  let c1_i32_702 : BitVec 32 := 1#32
  let v904 : BitVec 32 := Scalar.muli v903 c1_i32_702
  let v905 : BitVec 32 := Scalar.addi c0_i32_703 v904
  v905.toNat
def k0_dev37 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c5_i32_708 : BitVec 32 := 5#32
  let v914 : BitVec 32 := Scalar.addi v10 c5_i32_708
  let c16_i32_709 : BitVec 32 := 16#32
  let v915 : BitVec 32 := Scalar.remsi v914 c16_i32_709
  let c2_i32_728 : BitVec 32 := 2#32
  let v938 : BitVec 32 := Scalar.shrsi v915 c2_i32_728
  let c8_i32_733 : BitVec 32 := 8#32
  let v944 : BitVec 32 := Scalar.muli v938 c8_i32_733
  let c2_i32_734 : BitVec 32 := 2#32
  let c3_i32_729 : BitVec 32 := 3#32
  let v939 : BitVec 32 := Scalar.andi v915 c3_i32_729
  let v945 : BitVec 32 := Scalar.muli c2_i32_734 v939
  let v946 : BitVec 32 := Scalar.addi v944 v945
  let c1_i32_730 : BitVec 32 := 1#32
  let v940 : BitVec 32 := Scalar.andi v939 c1_i32_730
  let c0_i32_731 : BitVec 32 := 0#32
  let v941 : BitVec 1 := Scalar.cmpi .eq v940 c0_i32_731
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_732 : BitVec 32 := 1#32
  let v942 : BitVec 32 := Scalar.subi c1_i32_732 v5
  let v943 : BitVec 32 := Scalar.select v941 v5 v942
  let v947 : BitVec 32 := Scalar.addi v946 v943
  let c1_i32_739 : BitVec 32 := 1#32
  let v948 : BitVec 32 := Scalar.muli v947 c1_i32_739
  let v949 : BitVec 32 := Scalar.addi c0_i32_740 v948
  v949.toNat
def k0_dev38 (d0 : Dev nD) : Nat :=
  let c0_i32_777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c6_i32_745 : BitVec 32 := 6#32
  let v958 : BitVec 32 := Scalar.addi v10 c6_i32_745
  let c16_i32_746 : BitVec 32 := 16#32
  let v959 : BitVec 32 := Scalar.remsi v958 c16_i32_746
  let c2_i32_765 : BitVec 32 := 2#32
  let v982 : BitVec 32 := Scalar.shrsi v959 c2_i32_765
  let c8_i32_770 : BitVec 32 := 8#32
  let v988 : BitVec 32 := Scalar.muli v982 c8_i32_770
  let c2_i32_771 : BitVec 32 := 2#32
  let c3_i32_766 : BitVec 32 := 3#32
  let v983 : BitVec 32 := Scalar.andi v959 c3_i32_766
  let v989 : BitVec 32 := Scalar.muli c2_i32_771 v983
  let v990 : BitVec 32 := Scalar.addi v988 v989
  let c1_i32_767 : BitVec 32 := 1#32
  let v984 : BitVec 32 := Scalar.andi v983 c1_i32_767
  let c0_i32_768 : BitVec 32 := 0#32
  let v985 : BitVec 1 := Scalar.cmpi .eq v984 c0_i32_768
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_769 : BitVec 32 := 1#32
  let v986 : BitVec 32 := Scalar.subi c1_i32_769 v5
  let v987 : BitVec 32 := Scalar.select v985 v5 v986
  let v991 : BitVec 32 := Scalar.addi v990 v987
  let c1_i32_776 : BitVec 32 := 1#32
  let v992 : BitVec 32 := Scalar.muli v991 c1_i32_776
  let v993 : BitVec 32 := Scalar.addi c0_i32_777 v992
  v993.toNat
def k0_dev39 (d0 : Dev nD) : Nat :=
  let c0_i32_814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c7_i32_782 : BitVec 32 := 7#32
  let v1002 : BitVec 32 := Scalar.addi v10 c7_i32_782
  let c16_i32_783 : BitVec 32 := 16#32
  let v1003 : BitVec 32 := Scalar.remsi v1002 c16_i32_783
  let c2_i32_802 : BitVec 32 := 2#32
  let v1026 : BitVec 32 := Scalar.shrsi v1003 c2_i32_802
  let c8_i32_807 : BitVec 32 := 8#32
  let v1032 : BitVec 32 := Scalar.muli v1026 c8_i32_807
  let c2_i32_808 : BitVec 32 := 2#32
  let c3_i32_803 : BitVec 32 := 3#32
  let v1027 : BitVec 32 := Scalar.andi v1003 c3_i32_803
  let v1033 : BitVec 32 := Scalar.muli c2_i32_808 v1027
  let v1034 : BitVec 32 := Scalar.addi v1032 v1033
  let c1_i32_804 : BitVec 32 := 1#32
  let v1028 : BitVec 32 := Scalar.andi v1027 c1_i32_804
  let c0_i32_805 : BitVec 32 := 0#32
  let v1029 : BitVec 1 := Scalar.cmpi .eq v1028 c0_i32_805
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_806 : BitVec 32 := 1#32
  let v1030 : BitVec 32 := Scalar.subi c1_i32_806 v5
  let v1031 : BitVec 32 := Scalar.select v1029 v5 v1030
  let v1035 : BitVec 32 := Scalar.addi v1034 v1031
  let c1_i32_813 : BitVec 32 := 1#32
  let v1036 : BitVec 32 := Scalar.muli v1035 c1_i32_813
  let v1037 : BitVec 32 := Scalar.addi c0_i32_814 v1036
  v1037.toNat
def k0_dev40 (d0 : Dev nD) : Nat :=
  let c0_i32_851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c8_i32_819 : BitVec 32 := 8#32
  let v1046 : BitVec 32 := Scalar.addi v10 c8_i32_819
  let c16_i32_820 : BitVec 32 := 16#32
  let v1047 : BitVec 32 := Scalar.remsi v1046 c16_i32_820
  let c2_i32_839 : BitVec 32 := 2#32
  let v1070 : BitVec 32 := Scalar.shrsi v1047 c2_i32_839
  let c8_i32_844 : BitVec 32 := 8#32
  let v1076 : BitVec 32 := Scalar.muli v1070 c8_i32_844
  let c2_i32_845 : BitVec 32 := 2#32
  let c3_i32_840 : BitVec 32 := 3#32
  let v1071 : BitVec 32 := Scalar.andi v1047 c3_i32_840
  let v1077 : BitVec 32 := Scalar.muli c2_i32_845 v1071
  let v1078 : BitVec 32 := Scalar.addi v1076 v1077
  let c1_i32_841 : BitVec 32 := 1#32
  let v1072 : BitVec 32 := Scalar.andi v1071 c1_i32_841
  let c0_i32_842 : BitVec 32 := 0#32
  let v1073 : BitVec 1 := Scalar.cmpi .eq v1072 c0_i32_842
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_843 : BitVec 32 := 1#32
  let v1074 : BitVec 32 := Scalar.subi c1_i32_843 v5
  let v1075 : BitVec 32 := Scalar.select v1073 v5 v1074
  let v1079 : BitVec 32 := Scalar.addi v1078 v1075
  let c1_i32_850 : BitVec 32 := 1#32
  let v1080 : BitVec 32 := Scalar.muli v1079 c1_i32_850
  let v1081 : BitVec 32 := Scalar.addi c0_i32_851 v1080
  v1081.toNat
def k0_dev41 (d0 : Dev nD) : Nat :=
  let c0_i32_888 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c9_i32_856 : BitVec 32 := 9#32
  let v1090 : BitVec 32 := Scalar.addi v10 c9_i32_856
  let c16_i32_857 : BitVec 32 := 16#32
  let v1091 : BitVec 32 := Scalar.remsi v1090 c16_i32_857
  let c2_i32_876 : BitVec 32 := 2#32
  let v1114 : BitVec 32 := Scalar.shrsi v1091 c2_i32_876
  let c8_i32_881 : BitVec 32 := 8#32
  let v1120 : BitVec 32 := Scalar.muli v1114 c8_i32_881
  let c2_i32_882 : BitVec 32 := 2#32
  let c3_i32_877 : BitVec 32 := 3#32
  let v1115 : BitVec 32 := Scalar.andi v1091 c3_i32_877
  let v1121 : BitVec 32 := Scalar.muli c2_i32_882 v1115
  let v1122 : BitVec 32 := Scalar.addi v1120 v1121
  let c1_i32_878 : BitVec 32 := 1#32
  let v1116 : BitVec 32 := Scalar.andi v1115 c1_i32_878
  let c0_i32_879 : BitVec 32 := 0#32
  let v1117 : BitVec 1 := Scalar.cmpi .eq v1116 c0_i32_879
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_880 : BitVec 32 := 1#32
  let v1118 : BitVec 32 := Scalar.subi c1_i32_880 v5
  let v1119 : BitVec 32 := Scalar.select v1117 v5 v1118
  let v1123 : BitVec 32 := Scalar.addi v1122 v1119
  let c1_i32_887 : BitVec 32 := 1#32
  let v1124 : BitVec 32 := Scalar.muli v1123 c1_i32_887
  let v1125 : BitVec 32 := Scalar.addi c0_i32_888 v1124
  v1125.toNat
def k0_dev42 (d0 : Dev nD) : Nat :=
  let c0_i32_925 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c10_i32_893 : BitVec 32 := 10#32
  let v1134 : BitVec 32 := Scalar.addi v10 c10_i32_893
  let c16_i32_894 : BitVec 32 := 16#32
  let v1135 : BitVec 32 := Scalar.remsi v1134 c16_i32_894
  let c2_i32_913 : BitVec 32 := 2#32
  let v1158 : BitVec 32 := Scalar.shrsi v1135 c2_i32_913
  let c8_i32_918 : BitVec 32 := 8#32
  let v1164 : BitVec 32 := Scalar.muli v1158 c8_i32_918
  let c2_i32_919 : BitVec 32 := 2#32
  let c3_i32_914 : BitVec 32 := 3#32
  let v1159 : BitVec 32 := Scalar.andi v1135 c3_i32_914
  let v1165 : BitVec 32 := Scalar.muli c2_i32_919 v1159
  let v1166 : BitVec 32 := Scalar.addi v1164 v1165
  let c1_i32_915 : BitVec 32 := 1#32
  let v1160 : BitVec 32 := Scalar.andi v1159 c1_i32_915
  let c0_i32_916 : BitVec 32 := 0#32
  let v1161 : BitVec 1 := Scalar.cmpi .eq v1160 c0_i32_916
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_917 : BitVec 32 := 1#32
  let v1162 : BitVec 32 := Scalar.subi c1_i32_917 v5
  let v1163 : BitVec 32 := Scalar.select v1161 v5 v1162
  let v1167 : BitVec 32 := Scalar.addi v1166 v1163
  let c1_i32_924 : BitVec 32 := 1#32
  let v1168 : BitVec 32 := Scalar.muli v1167 c1_i32_924
  let v1169 : BitVec 32 := Scalar.addi c0_i32_925 v1168
  v1169.toNat
def k0_dev43 (d0 : Dev nD) : Nat :=
  let c0_i32_962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c11_i32_930 : BitVec 32 := 11#32
  let v1178 : BitVec 32 := Scalar.addi v10 c11_i32_930
  let c16_i32_931 : BitVec 32 := 16#32
  let v1179 : BitVec 32 := Scalar.remsi v1178 c16_i32_931
  let c2_i32_950 : BitVec 32 := 2#32
  let v1202 : BitVec 32 := Scalar.shrsi v1179 c2_i32_950
  let c8_i32_955 : BitVec 32 := 8#32
  let v1208 : BitVec 32 := Scalar.muli v1202 c8_i32_955
  let c2_i32_956 : BitVec 32 := 2#32
  let c3_i32_951 : BitVec 32 := 3#32
  let v1203 : BitVec 32 := Scalar.andi v1179 c3_i32_951
  let v1209 : BitVec 32 := Scalar.muli c2_i32_956 v1203
  let v1210 : BitVec 32 := Scalar.addi v1208 v1209
  let c1_i32_952 : BitVec 32 := 1#32
  let v1204 : BitVec 32 := Scalar.andi v1203 c1_i32_952
  let c0_i32_953 : BitVec 32 := 0#32
  let v1205 : BitVec 1 := Scalar.cmpi .eq v1204 c0_i32_953
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_954 : BitVec 32 := 1#32
  let v1206 : BitVec 32 := Scalar.subi c1_i32_954 v5
  let v1207 : BitVec 32 := Scalar.select v1205 v5 v1206
  let v1211 : BitVec 32 := Scalar.addi v1210 v1207
  let c1_i32_961 : BitVec 32 := 1#32
  let v1212 : BitVec 32 := Scalar.muli v1211 c1_i32_961
  let v1213 : BitVec 32 := Scalar.addi c0_i32_962 v1212
  v1213.toNat
def k0_dev44 (d0 : Dev nD) : Nat :=
  let c0_i32_999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c12_i32_967 : BitVec 32 := 12#32
  let v1222 : BitVec 32 := Scalar.addi v10 c12_i32_967
  let c16_i32_968 : BitVec 32 := 16#32
  let v1223 : BitVec 32 := Scalar.remsi v1222 c16_i32_968
  let c2_i32_987 : BitVec 32 := 2#32
  let v1246 : BitVec 32 := Scalar.shrsi v1223 c2_i32_987
  let c8_i32_992 : BitVec 32 := 8#32
  let v1252 : BitVec 32 := Scalar.muli v1246 c8_i32_992
  let c2_i32_993 : BitVec 32 := 2#32
  let c3_i32_988 : BitVec 32 := 3#32
  let v1247 : BitVec 32 := Scalar.andi v1223 c3_i32_988
  let v1253 : BitVec 32 := Scalar.muli c2_i32_993 v1247
  let v1254 : BitVec 32 := Scalar.addi v1252 v1253
  let c1_i32_989 : BitVec 32 := 1#32
  let v1248 : BitVec 32 := Scalar.andi v1247 c1_i32_989
  let c0_i32_990 : BitVec 32 := 0#32
  let v1249 : BitVec 1 := Scalar.cmpi .eq v1248 c0_i32_990
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_991 : BitVec 32 := 1#32
  let v1250 : BitVec 32 := Scalar.subi c1_i32_991 v5
  let v1251 : BitVec 32 := Scalar.select v1249 v5 v1250
  let v1255 : BitVec 32 := Scalar.addi v1254 v1251
  let c1_i32_998 : BitVec 32 := 1#32
  let v1256 : BitVec 32 := Scalar.muli v1255 c1_i32_998
  let v1257 : BitVec 32 := Scalar.addi c0_i32_999 v1256
  v1257.toNat
def k0_dev45 (d0 : Dev nD) : Nat :=
  let c0_i32_1036 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c13_i32_1004 : BitVec 32 := 13#32
  let v1266 : BitVec 32 := Scalar.addi v10 c13_i32_1004
  let c16_i32_1005 : BitVec 32 := 16#32
  let v1267 : BitVec 32 := Scalar.remsi v1266 c16_i32_1005
  let c2_i32_1024 : BitVec 32 := 2#32
  let v1290 : BitVec 32 := Scalar.shrsi v1267 c2_i32_1024
  let c8_i32_1029 : BitVec 32 := 8#32
  let v1296 : BitVec 32 := Scalar.muli v1290 c8_i32_1029
  let c2_i32_1030 : BitVec 32 := 2#32
  let c3_i32_1025 : BitVec 32 := 3#32
  let v1291 : BitVec 32 := Scalar.andi v1267 c3_i32_1025
  let v1297 : BitVec 32 := Scalar.muli c2_i32_1030 v1291
  let v1298 : BitVec 32 := Scalar.addi v1296 v1297
  let c1_i32_1026 : BitVec 32 := 1#32
  let v1292 : BitVec 32 := Scalar.andi v1291 c1_i32_1026
  let c0_i32_1027 : BitVec 32 := 0#32
  let v1293 : BitVec 1 := Scalar.cmpi .eq v1292 c0_i32_1027
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_1028 : BitVec 32 := 1#32
  let v1294 : BitVec 32 := Scalar.subi c1_i32_1028 v5
  let v1295 : BitVec 32 := Scalar.select v1293 v5 v1294
  let v1299 : BitVec 32 := Scalar.addi v1298 v1295
  let c1_i32_1035 : BitVec 32 := 1#32
  let v1300 : BitVec 32 := Scalar.muli v1299 c1_i32_1035
  let v1301 : BitVec 32 := Scalar.addi c0_i32_1036 v1300
  v1301.toNat
def k0_dev46 (d0 : Dev nD) : Nat :=
  let c0_i32_1073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c14_i32_1041 : BitVec 32 := 14#32
  let v1310 : BitVec 32 := Scalar.addi v10 c14_i32_1041
  let c16_i32_1042 : BitVec 32 := 16#32
  let v1311 : BitVec 32 := Scalar.remsi v1310 c16_i32_1042
  let c2_i32_1061 : BitVec 32 := 2#32
  let v1334 : BitVec 32 := Scalar.shrsi v1311 c2_i32_1061
  let c8_i32_1066 : BitVec 32 := 8#32
  let v1340 : BitVec 32 := Scalar.muli v1334 c8_i32_1066
  let c2_i32_1067 : BitVec 32 := 2#32
  let c3_i32_1062 : BitVec 32 := 3#32
  let v1335 : BitVec 32 := Scalar.andi v1311 c3_i32_1062
  let v1341 : BitVec 32 := Scalar.muli c2_i32_1067 v1335
  let v1342 : BitVec 32 := Scalar.addi v1340 v1341
  let c1_i32_1063 : BitVec 32 := 1#32
  let v1336 : BitVec 32 := Scalar.andi v1335 c1_i32_1063
  let c0_i32_1064 : BitVec 32 := 0#32
  let v1337 : BitVec 1 := Scalar.cmpi .eq v1336 c0_i32_1064
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_1065 : BitVec 32 := 1#32
  let v1338 : BitVec 32 := Scalar.subi c1_i32_1065 v5
  let v1339 : BitVec 32 := Scalar.select v1337 v5 v1338
  let v1343 : BitVec 32 := Scalar.addi v1342 v1339
  let c1_i32_1072 : BitVec 32 := 1#32
  let v1344 : BitVec 32 := Scalar.muli v1343 c1_i32_1072
  let v1345 : BitVec 32 := Scalar.addi c0_i32_1073 v1344
  v1345.toNat
def k0_dev47 (d0 : Dev nD) : Nat :=
  let c0_i32_1110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let c15_i32_1078 : BitVec 32 := 15#32
  let v1354 : BitVec 32 := Scalar.addi v10 c15_i32_1078
  let c16_i32_1079 : BitVec 32 := 16#32
  let v1355 : BitVec 32 := Scalar.remsi v1354 c16_i32_1079
  let c2_i32_1098 : BitVec 32 := 2#32
  let v1378 : BitVec 32 := Scalar.shrsi v1355 c2_i32_1098
  let c8_i32_1103 : BitVec 32 := 8#32
  let v1384 : BitVec 32 := Scalar.muli v1378 c8_i32_1103
  let c2_i32_1104 : BitVec 32 := 2#32
  let c3_i32_1099 : BitVec 32 := 3#32
  let v1379 : BitVec 32 := Scalar.andi v1355 c3_i32_1099
  let v1385 : BitVec 32 := Scalar.muli c2_i32_1104 v1379
  let v1386 : BitVec 32 := Scalar.addi v1384 v1385
  let c1_i32_1100 : BitVec 32 := 1#32
  let v1380 : BitVec 32 := Scalar.andi v1379 c1_i32_1100
  let c0_i32_1101 : BitVec 32 := 0#32
  let v1381 : BitVec 1 := Scalar.cmpi .eq v1380 c0_i32_1101
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c1_i32_1102 : BitVec 32 := 1#32
  let v1382 : BitVec 32 := Scalar.subi c1_i32_1102 v5
  let v1383 : BitVec 32 := Scalar.select v1381 v5 v1382
  let v1387 : BitVec 32 := Scalar.addi v1386 v1383
  let c1_i32_1109 : BitVec 32 := 1#32
  let v1388 : BitVec 32 := Scalar.muli v1387 c1_i32_1109
  let v1389 : BitVec 32 := Scalar.addi c0_i32_1110 v1388
  v1389.toNat
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.shrsi v2 c1_i32_0
  let v4 : BitVec 32 := Scalar.addi v2 v3
  let c1_i32_1 : BitVec 32 := 1#32
  let v5 : BitVec 32 := Scalar.andi v4 c1_i32_1
  let c16_i32_1124 : BitVec 32 := 16#32
  let v1406 : BitVec 32 := Scalar.muli v5 c16_i32_1124
  let c3_i32 : BitVec 32 := 3#32
  let v6 : BitVec 32 := Scalar.shrsi v2 c3_i32
  let c4_i32 : BitVec 32 := 4#32
  let v7 : BitVec 32 := Scalar.muli v6 c4_i32
  let c7_i32 : BitVec 32 := 7#32
  let v8 : BitVec 32 := Scalar.andi v2 c7_i32
  let c1_i32_2 : BitVec 32 := 1#32
  let v9 : BitVec 32 := Scalar.shrsi v8 c1_i32_2
  let v10 : BitVec 32 := Scalar.addi v7 v9
  let v1407 : BitVec 32 := Scalar.addi v1406 v10
  let v1408 : Index := Scalar.indexCast v1407
  let c0_1125 : Index := 0#32
  let c0_1126 : Index := 0#32
  ![v1408.toNat, 0, 0]
abbrev stage0_0 : Fin 1 → Memref sig .tc .vmem S1024x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.KernelIdeal.Mesh.lean ====
/-
# The mesh of 32 devices as two planes of sixteen

Device `c` has two coordinates: its plane, `0` or `1`, and its place `c / 2` within the plane. Devices `2 k` and
`2 k + 1` share the place `k` and lie in different planes: they are partners. The kernel sends a block to the partner
first, and then within the plane; here are the maps the protocol is written with, and the closed forms of the
device and offset words the program computes.
-/
module

public import proofs.«01_k».proof.Proof.Gen.KernelIdeal.Skeleton
public import proofs.«01_k».proof.Proof.Gen.KernelIdeal.Launch
public import Mathlib.Logic.Equiv.Fin.Basic
public import Mathlib.Tactic.FinCases

@[expose] public section

noncomputable section

namespace Cert.KernelIdeal.Proto

open Cert.KernelIdeal Cert.KernelIdeal.Gen
open Idealize.ShloMosaic

set_option backward.proofsInPublic true

/-- The device in plane `x` at place `k`. -/
def place (x k : Nat) : Dev nD := ⟨(2 * (k % 16) + (x + k) % 2) % 32, Nat.mod_lt _ (by decide)⟩

/-- The plane of a device. -/
def plane (c : Dev nD) : Nat := (c.val + c.val / 2) % 2

/-- The device at the same place in the other plane. -/
def partner (c : Dev nD) : Dev nD := place (1 - plane c) (c.val / 2)

/-- The device `o` places further round in the same plane. -/
def pl (o : Fin 16) (c : Dev nD) : Dev nD := place (plane c) (c.val / 2 + o.val)

/-- The row of the sending buffer where the block for device `d` is put. -/
def row (d : Dev nD) : Nat := plane d * 16 + d.val / 2

set_option maxRecDepth 100000 in
theorem partner_partner : ∀ c : Dev nD, partner (partner c) = c := by decide +kernel
theorem pl_pl_neg : ∀ (o : Fin 16) (c : Dev nD), pl o (pl (-o) c) = c := by decide +kernel
theorem pl_neg_pl : ∀ (o : Fin 16) (c : Dev nD), pl (-o) (pl o c) = c := by decide +kernel
theorem pl_partner : ∀ (o : Fin 16) (c : Dev nD), pl o (partner c) = partner (pl o c) := by decide +kernel
theorem pl_zero : ∀ c : Dev nD, pl 0 c = c := by decide +kernel
theorem row_lt : ∀ d : Dev nD, row d < 32 := by decide +kernel
theorem row_inj : ∀ d e : Dev nD, row d = row e → d = e := by decide +kernel

/-- Going to the partner, as a permutation of the devices. -/
def partnerE : Dev nD ≃ Dev nD := ⟨partner, partner, partner_partner, partner_partner⟩
/-- Going `o` places round, as a permutation of the devices. -/
def plE (o : Fin 16) : Dev nD ≃ Dev nD := ⟨pl o, pl (-o), pl_neg_pl o, pl_pl_neg o⟩
/-- Whom the `o`-th signal is for: the partner at first, then those of the plane. -/
def sigE (o : Fin 16) : Dev nD ≃ Dev nD := if o = 0 then partnerE else plE o

/-- The devices the program signals, in the order of its signals. -/
def sigDev (c : Dev nD) : Fin 16 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩, ⟨k0_dev11 c, k0_dev11_lt c⟩, ⟨k0_dev12 c, k0_dev12_lt c⟩,
    ⟨k0_dev13 c, k0_dev13_lt c⟩, ⟨k0_dev14 c, k0_dev14_lt c⟩, ⟨k0_dev15 c, k0_dev15_lt c⟩, ⟨k0_dev16 c, k0_dev16_lt c⟩]

/-- The devices the first phase's copies go to. -/
def xDev (c : Dev nD) : Fin 16 → Dev nD :=
  ![⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩,
    ⟨k0_dev25 c, k0_dev25_lt c⟩, ⟨k0_dev26 c, k0_dev26_lt c⟩, ⟨k0_dev27 c, k0_dev27_lt c⟩, ⟨k0_dev28 c, k0_dev28_lt c⟩,
    ⟨k0_dev29 c, k0_dev29_lt c⟩, ⟨k0_dev30 c, k0_dev30_lt c⟩, ⟨k0_dev31 c, k0_dev31_lt c⟩, ⟨k0_dev32 c, k0_dev32_lt c⟩]

/-- The devices the second phase's copies go to. -/
def pDev (c : Dev nD) : Fin 15 → Dev nD :=
  ![⟨k0_dev33 c, k0_dev33_lt c⟩, ⟨k0_dev34 c, k0_dev34_lt c⟩, ⟨k0_dev35 c, k0_dev35_lt c⟩, ⟨k0_dev36 c, k0_dev36_lt c⟩,
    ⟨k0_dev37 c, k0_dev37_lt c⟩, ⟨k0_dev38 c, k0_dev38_lt c⟩, ⟨k0_dev39 c, k0_dev39_lt c⟩, ⟨k0_dev40 c, k0_dev40_lt c⟩,
    ⟨k0_dev41 c, k0_dev41_lt c⟩, ⟨k0_dev42 c, k0_dev42_lt c⟩, ⟨k0_dev43 c, k0_dev43_lt c⟩, ⟨k0_dev44 c, k0_dev44_lt c⟩,
    ⟨k0_dev45 c, k0_dev45_lt c⟩, ⟨k0_dev46 c, k0_dev46_lt c⟩, ⟨k0_dev47 c, k0_dev47_lt c⟩]

theorem sigDev_eq : ∀ (c : Dev nD) (o : Fin 16), sigDev c o = sigE o c := by decide +kernel
theorem xDev_eq : ∀ (c : Dev nD) (o : Fin 16), xDev c o = partner c := by decide +kernel
theorem pDev_eq : ∀ (c : Dev nD) (o : Fin 15), pDev c o = pl o.succ c := by decide +kernel

/-- Where the block for device `d` begins in the sending buffer. -/
def rowOff (d : Dev nD) : Fin 3 → Nat := ![row d, 0, 0]

theorem off1_eq : ∀ (c : Dev nD) (o : Fin 16), k0_off1 c (BitVec.ofNat 32 o.val) = rowOff (partner (pl o c)) := by decide +kernel
theorem off2_eq : ∀ (c : Dev nD) (o : Fin 15), k0_off2 c (BitVec.ofNat 32 (1 + o.val)) = rowOff (pl o.succ c) := by decide +kernel
theorem off3_eq : ∀ c : Dev nD, k0_off3 c = rowOff c := by decide +kernel

end Cert.KernelIdeal.Proto

end
-- ==== Proof.KernelIdeal.Steps.lean ====
/-
# The kernel's body as six loops over short lists

The compiled body is a straight line of some three hundred memory operations. Here it is written again as loops over
lists of numbers, with the repeated steps said once, and the two are shown to be the same program.
-/
module

public import proofs.«01_k».proof.Proof.KernelIdeal.Mesh
public import Idealize.ShloMosaic.Lib.Pipeline.Regions
public import Idealize.ShloMosaic.Lib.PairWhole

@[expose] public section

noncomputable section

namespace Cert.KernelIdeal.Proto

open Cert.KernelIdeal Cert.KernelIdeal.Gen
open Idealize.ShloMosaic
open Idealize.SL.Sem

set_option backward.proofsInPublic true

variable {F : FTy → Type} [FloatOps F]

/-! ## The buffers, their slots, and the semaphores -/

abbrev xM : Memref sig .tc .vmem S1024x32 .bf16 := Memref.whole cc0_stg0_0
abbrev wM : Memref sig .tc .vmem S32x1024 .bf16 := Memref.whole cc0_stg1_0
abbrev oM : Memref sig .tc .vmem S32x1024 .f32 := Memref.whole cc0_stg2_0
/-- The products, a block per device. -/
abbrev partM : Memref sig .tc .vmem S32x32x1024 .bf16 := Memref.whole cc0_scratch0
/-- What arrives from the partner. -/
abbrev xrM : Memref sig .tc .vmem S16x32x1024 .bf16 := Memref.whole cc0_scratch1
/-- The sums sent round the plane. -/
abbrev combM : Memref sig .tc .vmem S16x32x1024 .bf16 := Memref.whole cc0_scratch2
/-- What arrives from the plane. -/
abbrev prM : Memref sig .tc .vmem S15x32x1024 .bf16 := Memref.whole cc0_scratch3

theorem inbX : ∀ (d : Dev nD) (a : Fin 2), (![32 * d.val, 0] : Fin 2 → Nat) a + S32x32.size a ≤ S1024x32.size a := by decide +kernel
theorem inbPart : ∀ (d : Dev nD) (a : Fin 3), rowOff d a + S1x32x1024.size a ≤ S32x32x1024.size a := by decide +kernel
theorem inb16 : ∀ (o : Fin 16) (a : Fin 3), (![o.val, 0, 0] : Fin 3 → Nat) a + S1x32x1024.size a ≤ S16x32x1024.size a := by decide +kernel
theorem inb15 : ∀ (o : Fin 15) (a : Fin 3), (![o.val, 0, 0] : Fin 3 → Nat) a + S1x32x1024.size a ≤ S15x32x1024.size a := by decide +kernel
theorem inbS16 : ∀ (o : Fin 16) (a : Fin 1), (![o.val] : Fin 1 → Nat) a + S1.size a ≤ S16.size a := by decide +kernel
theorem inbS15 : ∀ (o : Fin 15) (a : Fin 1), (![o.val] : Fin 1 → Nat) a + S1.size a ≤ S15.size a := by decide +kernel

/-- The rows of `x` that are device `d`'s. -/
abbrev xR (d : Dev nD) : Rect S1024x32 := Rect.unit (s := S1024x32) ![32 * d.val, 0] S32x32.size (inbX d)
abbrev wR : Rect S32x1024 := Rect.unit (s := S32x1024) ![0, 0] S32x1024.size inb_S32x1024_S32x1024_0_0
/-- A slab of the products at an offset. -/
abbrev slabR (off : Fin 3 → Nat) (h : ∀ a, off a + S1x32x1024.size a ≤ S32x32x1024.size a) : Rect S32x32x1024 :=
  Rect.unit (s := S32x32x1024) off S1x32x1024.size h
abbrev partR (d : Dev nD) : Rect S32x32x1024 := slabR (rowOff d) (inbPart d)
abbrev r16 (o : Fin 16) : Rect S16x32x1024 := Rect.unit (s := S16x32x1024) ![o.val, 0, 0] S1x32x1024.size (inb16 o)
abbrev r15 (o : Fin 15) : Rect S15x32x1024 := Rect.unit (s := S15x32x1024) ![o.val, 0, 0] S1x32x1024.size (inb15 o)

abbrev barS : Sem sig := (SemArray.scalar (sig.barrier 0 rfl) : Sems sig S_).sem
abbrev sem16 (s : DmaSems sig S16) (o : Fin 16) : DmaSem sig :=
  ((s.slice (Rect.unit (s := S16) ![o.val] S1.size (inbS16 o))).squeeze S_ squeezes_S1_S_).sem
abbrev sem15 (s : DmaSems sig S15) (o : Fin 15) : DmaSem sig :=
  ((s.slice (Rect.unit (s := S15) ![o.val] S1.size (inbS15 o))).squeeze S_ squeezes_S1_S_).sem
abbrev xsS (o : Fin 16) : DmaSem sig := sem16 cc0_scratch4 o
abbrev xrS (o : Fin 16) : DmaSem sig := sem16 cc0_scratch5 o
abbrev psS (o : Fin 15) : DmaSem sig := sem15 cc0_scratch6 o
abbrev prS (o : Fin 15) : DmaSem sig := sem15 cc0_scratch7 o

/-- A slab of a buffer of slabs, as the copies name it. -/
abbrev slot {s : Shape} (m : Memref sig .tc .vmem s .bf16) (off size : Fin s.rank → Nat) (h : ∀ a, off a + size a ≤ s.size a)
    (hs : (Rect.unit (s := s) off size h).shape.Squeezes S32x1024) : Memref sig .tc .vmem S32x1024 .bf16 :=
  (m.slice (Rect.unit (s := s) off size h) (fun _ => rfl)).squeeze S32x1024 hs
abbrev partSlot (off : Fin 3 → Nat) (h : ∀ a, off a + S1x32x1024.size a ≤ S32x32x1024.size a) : Memref sig .tc .vmem S32x1024 .bf16 :=
  (partM.slice (slabR off h) (fun _ => rfl)).squeeze S32x1024 squeezes_S1x32x1024_S32x1024
abbrev slot16 (m : Memref sig .tc .vmem S16x32x1024 .bf16) (o : Fin 16) : Memref sig .tc .vmem S32x1024 .bf16 :=
  (m.slice (r16 o) (fun _ => rfl)).squeeze S32x1024 squeezes_S1x32x1024_S32x1024
abbrev slot15 (m : Memref sig .tc .vmem S15x32x1024 .bf16) (o : Fin 15) : Memref sig .tc .vmem S32x1024 .bf16 :=
  (m.slice (r15 o) (fun _ => rfl)).squeeze S32x1024 squeezes_S1x32x1024_S32x1024

theorem slabsPart (off : Fin 3 → Nat) (h : ∀ a, off a + S1x32x1024.size a ≤ S32x32x1024.size a) (hz : off 1 = 0) : (slabR off h).WholeRows :=
  Rect.WholeRows.intro (s := S32x32x1024) (by decide) hz rfl rfl
theorem slabs16 (o : Fin 16) : (r16 o).WholeRows := Rect.WholeRows.intro (s := S16x32x1024) (by decide) rfl rfl rfl
theorem slabs15 (o : Fin 15) : (r15 o).WholeRows := Rect.WholeRows.intro (s := S15x32x1024) (by decide) rfl rfl rfl

theorem wordPart (off : Fin 3 → Nat) (h : ∀ a, off a + S1x32x1024.size a ≤ S32x32x1024.size a) (hz : off 1 = 0) : (partSlot off h).view.WordExact :=
  ((Memref.isWhole_whole cc0_scratch0).wordExact_slice rfl _ ((slabsPart off h hz).wholeWords _)).reshape _ _
theorem word16 (m : Memref sig .tc .vmem S16x32x1024 .bf16) (hm : m.IsWhole) (o : Fin 16) : (slot16 m o).view.WordExact :=
  (hm.wordExact_slice rfl _ ((slabs16 o).wholeWords _)).reshape _ _
theorem word15 (m : Memref sig .tc .vmem S15x32x1024 .bf16) (hm : m.IsWhole) (o : Fin 15) : (slot15 m o).view.WordExact :=
  (hm.wordExact_slice rfl _ ((slabs15 o).wholeWords _)).reshape _ _

theorem storePart (d : Dev nD) : (partM.access (partR d)).Stores Finset.univ :=
  View.stores_vmem h_S1x32x1024
    (((Memref.isWhole_whole cc0_scratch0).pairWhole (by decide)).storeExact_slice rfl (partR d) (slabsPart _ _ rfl) (by decide)) (fun _ => rfl)
theorem storeComb (o : Fin 16) : (combM.access (r16 o)).Stores Finset.univ :=
  View.stores_vmem h_S1x32x1024
    (((Memref.isWhole_whole cc0_scratch2).pairWhole (by decide)).storeExact_slice rfl (r16 o) (slabs16 o) (by decide)) (fun _ => rfl)
theorem storeOut : (oM.access wR).Stores Finset.univ :=
  View.stores_vmem h_S32x1024
    (((Memref.isWhole_whole cc0_stg2_0).pairWhole (by decide)).storeExact_slice rfl wR (Rect.WholeRows.intro (s := S32x1024) (by decide) rfl rfl rfl) (by decide)) (fun _ => rfl)

/-! ## The values the body computes -/

/-- A device's product: its rows of `x` for one device against its rows of `w`, rounded. -/
def prodV (x : Vec F S32x32 .bf16) (w : Vec F S32x1024 .bf16) : FVec F S1x32x1024 .bf16 := k0_pay1 x w
/-- The sum of two partners' products, rounded. -/
def sumV (a b : Vec F S1x32x1024 .bf16) : FVec F S1x32x1024 .bf16 := k0_pay39 a b
/-- The sum of the two partners' products for the device itself, not rounded. -/
def acc₀ (a b : Vec F S1x32x1024 .bf16) : FVec F S32x1024 .f32 := k0_pay57 a b
/-- One block more in the running sum. -/
def accStep (acc : FVec F S32x1024 .f32) (v : Vec F S1x32x1024 .bf16) : FVec F S32x1024 .f32 := addf acc (k0_pay62 v)
/-- The output's entries from the sums: `y` times the logistic of `y`. -/
def siluV (acc : FVec F S32x1024 .f32) : FVec F S32x1024 .f32 := mulf acc (logistic acc)

/-! ## The loops -/

variable (F) in
abbrev Pr : Type _ := Prog (TpuEff nD τ sig (Elt F) Λ₀ .tc) PUnit

/-- The signals. -/
def sigs (c : Dev nD) : List (Fin 16) → Pr F → Pr F
  | [], k => k
  | o :: l, k => .op (.semSignal (Dev.tc (sigDev c o)) barS (1#32).toInt) fun _ => sigs c l k

/-- The products, device by device, each put at its slab. -/
def prods : List (Dev nD) → Pr F → Pr F
  | [], k => k
  | d :: l, k =>
    .op (.load xM (xR d).toLoadRect (View.loadsAt_vmem h_S32x32)) fun x =>
    .op (.load wM wR.toLoadRect (View.loadsAt_vmem h_S32x1024)) fun w =>
    .op (.load partM (partR d).toLoadRect (View.loadsAt_vmem h_S1x32x1024)) fun _ =>
    .op (.store partM (partR d) (prodV x w) Finset.univ (storePart d) (.inl rfl)) fun _ => prods l k

/-- The copies to the partner. -/
def xSends (c : Dev nD) : List (Fin 16) → Pr F → Pr F
  | [], k => k
  | o :: l, k =>
    .op (.enqueueDma (partSlot (k0_off1 c (BitVec.ofNat 32 o.val)) (k0_off1_inb c o))
        (.remote (Dev.tc (xDev c o)) (slot16 xrM o) (.dma (xsS o))) (.dma (xrS o))
        (wordPart _ _ (by rw [off1_eq]; rfl)) (word16 xrM (Memref.isWhole_whole _) o) ⟨⟨rfl, Or.inl rfl⟩, trivial⟩) fun _ => xSends c l k

/-- For each further place: wait for the partner's product, add one's own, and copy the sum to the device it is for. -/
def mids (c : Dev nD) : List (Fin 15) → Pr F → Pr F
  | [], k => k
  | o :: l, k =>
    .op (.waitDma2 (xrS o.succ) (partSlot (k0_off1 c (BitVec.ofNat 32 o.succ.val)) (k0_off1_inb c o.succ)) (slot16 xrM o.succ)
        (wordPart _ _ (by rw [off1_eq]; rfl)) (word16 xrM (Memref.isWhole_whole _) _)) fun _ =>
    .op (.load partM (slabR (k0_off2 c (BitVec.ofNat 32 (1 + o.val))) (k0_off2_inb c o)).toLoadRect (View.loadsAt_vmem h_S1x32x1024)) fun a =>
    .op (.load xrM (r16 o.succ).toLoadRect (View.loadsAt_vmem h_S1x32x1024)) fun b =>
    .op (.load combM (r16 o.succ).toLoadRect (View.loadsAt_vmem h_S1x32x1024)) fun _ =>
    .op (.store combM (r16 o.succ) (sumV a b) Finset.univ (storeComb _) (.inl rfl)) fun _ =>
    .op (.enqueueDma (slot16 combM o.succ) (.remote (Dev.tc (pDev c o)) (slot15 prM o) (.dma (psS o))) (.dma (prS o))
        (word16 combM (Memref.isWhole_whole _) _) (word15 prM (Memref.isWhole_whole _) o) ⟨⟨rfl, Or.inl rfl⟩, trivial⟩) fun _ => mids c l k

/-- The sums that arrive from the plane, added up one by one. -/
def accs : List (Fin 15) → FVec F S32x1024 .f32 → (FVec F S32x1024 .f32 → Pr F) → Pr F
  | [], acc, k => k acc
  | o :: l, acc, k =>
    .op (.waitDma2 (prS o) (slot16 combM o.succ) (slot15 prM o) (word16 combM (Memref.isWhole_whole _) _) (word15 prM (Memref.isWhole_whole _) o)) fun _ =>
    .op (.load prM (r15 o).toLoadRect (View.loadsAt_vmem h_S1x32x1024)) fun v => accs l (accStep acc v) k

/-- The waits for the first phase's copies to have left. -/
def xWaits (c : Dev nD) : List (Fin 16) → Pr F → Pr F
  | [], k => k
  | o :: l, k =>
    .op (.waitDma2 (xsS o) (slot16 xrM o) (partSlot (k0_off1 c (BitVec.ofNat 32 o.val)) (k0_off1_inb c o))
        (word16 xrM (Memref.isWhole_whole _) o) (wordPart _ _ (by rw [off1_eq]; rfl))) fun _ => xWaits c l k

/-- The waits for the second phase's copies to have left. -/
def pWaits : List (Fin 15) → Pr F → Pr F
  | [], k => k
  | o :: l, k =>
    .op (.waitDma2 (psS o) (slot15 prM o) (slot16 combM o.succ) (word15 prM (Memref.isWhole_whole _) o) (word16 combM (Memref.isWhole_whole _) _)) fun _ => pWaits l k

/-- The numbers below sixteen, below fifteen and the devices, in order. -/
def l16 : List (Fin 16) := [0, 1, 2, 3, 4, 5, 6, 7, 8, 9, 10, 11, 12, 13, 14, 15]
def l15 : List (Fin 15) := [0, 1, 2, 3, 4, 5, 6, 7, 8, 9, 10, 11, 12, 13, 14]
def lDev : List (Dev nD) := [0, 1, 2, 3, 4, 5, 6, 7, 8, 9, 10, 11, 12, 13, 14, 15, 16, 17, 18, 19, 20, 21, 22, 23, 24, 25, 26, 27, 28, 29, 30, 31]

/-- What follows the second phase: the running sum, the output, and the waits for what was sent. -/
def tail (c : Dev nD) : Pr F :=
  .op (.waitDma2 (xrS 0) (partSlot (k0_off1 c (BitVec.ofNat 32 (0 : Fin 16).val)) (k0_off1_inb c 0)) (slot16 xrM 0)
      (wordPart _ _ (by rw [off1_eq]; rfl)) (word16 xrM (Memref.isWhole_whole _) _)) fun _ =>
  .op (.load partM (slabR (k0_off3 c) (k0_off3_inb c)).toLoadRect (View.loadsAt_vmem h_S1x32x1024)) fun a =>
  .op (.load xrM (r16 0).toLoadRect (View.loadsAt_vmem h_S1x32x1024)) fun b =>
  accs l15 (acc₀ a b) fun acc =>
  .op (.load oM wR.toLoadRect (View.loadsAt_vmem h_S32x1024)) fun _ =>
  .op (.store oM wR (siluV acc) Finset.univ storeOut (.inl rfl)) fun _ =>
  xWaits c l16 (pWaits l15 (.ret ⟨⟩))

/-- The body on device `c`. -/
def prog (c : Dev nD) : Pr F :=
  sigs c l16 (.op (.semWait barS (16#32).toInt) fun _ => prods lDev (xSends c l16 (mids c l15 (tail c))))

set_option maxRecDepth 100000 in
/-- The compiled body is the loops. -/
theorem body_eq : cc0_body (F := F) xM (Memref.isWhole_whole _) wM (Memref.isWhole_whole _) oM (Memref.isWhole_whole _)
      partM (Memref.isWhole_whole _) xrM (Memref.isWhole_whole _) combM (Memref.isWhole_whole _) prM (Memref.isWhole_whole _)
      cc0_scratch4 cc0_scratch5 cc0_scratch6 cc0_scratch7
    = .op .deviceId fun c => prog c := by
  chain_rfl

end Cert.KernelIdeal.Proto

end
-- ==== Proof.KernelIdeal.Boxes.lean ====
/-
# Slabs of buffers held with known contents

The protocol cuts every buffer of blocks into its slabs and hands the slabs about one by one. `box` is a slab of a
buffer on a device with a known value under it, `some box` the same with any value. The rules here are the three things
done to a slab: a load, a store over the whole of it, and the landing of a copy. `bag` is a list of such things held
together, in the shape a loop over the list takes them one by one.
-/
module

public import proofs.«01_k».proof.Proof.KernelIdeal.Steps
public import Idealize.ShloMosaic.Lib.Pipeline.Launch
public import Idealize.ShloMosaic.Lib.Pipeline.Kit
public import Idealize.ShloMosaic.Lib.ViewIndex
public import Idealize.ShloMosaic.Lib.Ring
public import Idealize.ShloMosaic.Lib.Tactic

@[expose] public section

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's ghost state, with up to sixteen duties a round, beside the pipeline's. -/
abbrev UB : Type := URounds (GSem nD τ sig) (Fin 16)
abbrev UU : Type := UR sig nD τ × UB

local notation "𝕄" => MT nD τ sig Unit (Elt F) ℕ UU ℕ

abbrev 𝒱₀ : Variants := Variants.none

/-- The weakest precondition of a program on a device's core. -/
abbrev WP (c : Dev nD) (p : Pr F) (Q : PUnit → sProp 𝕄) : sProp 𝕄 :=
  wp frame (wpE (defs₀ (F := F)) 𝒱₀ (c : Thread nD τ) none) Set.univ p Q

/-! ## Bags -/

section Bag
variable {A B : Type}

/-- The list's things, held together. -/
def bag (Φ : A → sProp 𝕄) : List A → sProp 𝕄
  | [] => iprop(emp)
  | a :: l => iprop(Φ a ∗ bag Φ l)

omit [FloatOps F] in
theorem bag_nil (Φ : A → sProp 𝕄) : bag Φ [] = iprop(emp) := rfl
omit [FloatOps F] in
theorem bag_cons (Φ : A → sProp 𝕄) (a : A) (l : List A) : bag Φ (a :: l) = iprop(Φ a ∗ bag Φ l) := rfl

omit [FloatOps F] in
theorem bag_map (Φ : B → sProp 𝕄) (f : A → B) : ∀ l : List A, bag Φ (l.map f) = bag (fun a => Φ (f a)) l
  | [] => rfl
  | a :: l => by rw [List.map_cons, bag_cons, bag_cons, bag_map Φ f l]

omit [FloatOps F] in
theorem bag_mono {Φ Ψ : A → sProp 𝕄} (h : ∀ a, Φ a ⊢ Ψ a) : ∀ l : List A, bag Φ l ⊢ bag Ψ l
  | [] => Entails.refl _
  | a :: l => BIClass.sep_mono (h a) (bag_mono h l)

omit [FloatOps F] in
theorem bag_univ [Fintype A] [DecidableEq A] (Φ : A → sProp 𝕄) : ∀ (l : List A), l.Nodup → bigSep l.toFinset Φ = bag Φ l
  | [], _ => by rw [List.toFinset_nil, bigSep_empty]; rfl
  | a :: l, h => by
    rw [List.nodup_cons] at h
    rw [List.toFinset_cons, bigSep_insert (by rw [List.mem_toFinset]; exact h.1), bag_cons, bag_univ Φ l h.2]; rfl

omit [FloatOps F] in
/-- All of a finite type's things are those of a list that names each once. -/
theorem bag_all [Fintype A] [DecidableEq A] (Φ : A → sProp 𝕄) (l : List A) (h : Finset.univ = l.toFinset) (hl : l.Nodup) :
    bigSep Finset.univ Φ = bag Φ l := by
  rw [h]; exact bag_univ Φ l hl

omit [FloatOps F] in
theorem bag_append (Φ : A → sProp 𝕄) : ∀ l l' : List A, bag Φ (l ++ l') = iprop(bag Φ l ∗ bag Φ l')
  | [], l' => by rw [List.nil_append, bag_nil]; exact (equiv_iff.mp BI.emp_sep).symm
  | a :: l, l' => by rw [List.cons_append, bag_cons, bag_cons, bag_append Φ l l']; exact equiv_iff.mp ⟨BI.sep_assoc', BI.sep_assoc⟩

omit [FloatOps F] in
theorem across (P Q R S : sProp 𝕄) : iprop((P ∗ Q) ∗ R ∗ S) ⊢ iprop((P ∗ R) ∗ Q ∗ S) := by
  iintro ⟨⟨H1, H2⟩, H3, H4⟩
  isplitl [H1 H3]
  · isplitl [H1] <;> iassumption
  · isplitl [H2] <;> iassumption

omit [FloatOps F] in
theorem bag_sep (Φ Ψ : A → sProp 𝕄) : ∀ l : List A, bag (fun a => iprop(Φ a ∗ Ψ a)) l = iprop(bag Φ l ∗ bag Ψ l)
  | [] => (equiv_iff.mp BI.emp_sep).symm
  | a :: l => by
    simp only [bag_cons]
    rw [bag_sep Φ Ψ l]
    exact equiv_iff.mp ⟨across _ _ _ _, across _ _ _ _⟩

end Bag

/-! ## Boxes -/

section Box
variable {s : Shape} {e : EltTy}

/-- The slab `r` of buffer `m` on device `c`, holding `X`. -/
def box (c : Dev nD) (m : Memref sig .tc .vmem s e) (r : Rect s) (X : Vec F r.shape e) : sProp 𝕄 :=
  iprop(∃ f : Buf (Elt F) ((m.access r).loc (c : Thread nD τ)), ⌜(m.access r).read (Elt F) f = X⌝
    ∗ ((m.access r).loc (c : Thread nD τ) ↦[(m.access r).set]{fullShare} f))

/-- The slab with anything in it. -/
def room (c : Dev nD) (m : Memref sig .tc .vmem s e) (r : Rect s) : sProp 𝕄 :=
  iprop(∃ f : Buf (Elt F) ((m.access r).loc (c : Thread nD τ)), ((m.access r).loc (c : Thread nD τ) ↦[(m.access r).set]{fullShare} f))

omit [FloatOps F] in
instance box_storable (c : Dev nD) (m : Memref sig .tc .vmem s e) (r : Rect s) (X : Vec F r.shape e) :
    BI.Storable (upEmb : UEmb _ 𝕄) (box c m r X) := by unfold box; infer_instance
omit [FloatOps F] in
instance room_storable (c : Dev nD) (m : Memref sig .tc .vmem s e) (r : Rect s) :
    BI.Storable (upEmb : UEmb _ 𝕄) (room (F := F) c m r) := by unfold room; infer_instance

omit [FloatOps F] in
theorem box_room (c : Dev nD) (m : Memref sig .tc .vmem s e) (r : Rect s) (X : Vec F r.shape e) : box c m r X ⊢ room c m r := by
  unfold box room
  iintro ⟨%f, -, H⟩
  iexists f; iexact H

theorem load_box {c : Dev nD} {m : Memref sig .tc .vmem s e} {r : Rect s} {X : Vec F r.shape e} {hl : m.view.LoadsAt r.toLoadRect}
    {k : (r.shape.Idx → Elt F e) → Pr F} {Q : PUnit → sProp 𝕄} :
    box c m r X ⊢ iprop((box c m r X -∗ WP c (k X) Q) -∗ WP c (.op (.load m r.toLoadRect hl) k) Q) := by
  unfold box
  iintro ⟨%f, %hf, H⟩ Hk
  iapply (wp_load_rect 𝒱₀ (c : Thread nD τ) none Set.univ (m := m) (r := r) (Finset.Subset.refl _)) $$ H; iintro H
  rw [hf]
  iapply Hk
  iexists f
  isplitr; · ipureintro; exact hf
  iexact H

/-- A load whose value is not used. -/
theorem load_room {c : Dev nD} {m : Memref sig .tc .vmem s e} {r : Rect s} {hl : m.view.LoadsAt r.toLoadRect}
    {k : Pr F} {Q : PUnit → sProp 𝕄} :
    room c m r ⊢ iprop((room c m r -∗ WP c k Q) -∗ WP c (.op (.load m r.toLoadRect hl) fun _ => k) Q) := by
  unfold room
  iintro ⟨%f, H⟩ Hk
  iapply (wp_load_rect 𝒱₀ (c : Thread nD τ) none Set.univ (m := m) (r := r) (Finset.Subset.refl _)) $$ H; iintro H
  iapply Hk
  iexists f
  iexact H

theorem store_room {c : Dev nD} {m : Memref sig .tc .vmem s e} {r : Rect s} {X : Vec F r.shape e}
    {hx : (m.access r).Stores Finset.univ} {hm : (Finset.univ : Finset r.shape.Idx) = Finset.univ ∨ ∀ a, r.stride a = 1}
    {k : PUnit → Pr F} {Q : PUnit → sProp 𝕄} :
    room c m r ⊢ iprop((box c m r X -∗ WP c (k ⟨⟩) Q) -∗ WP c (.op (.store m r X Finset.univ hx hm) k) Q) := by
  unfold box room
  iintro ⟨%f, H⟩ Hk
  iapply (wp_store 𝒱₀ (c : Thread nD τ) none Set.univ (m := m) (r := r) (Mk := Finset.univ) (S := (m.access r).set) (Finset.Subset.refl _)) $$ H; iintro H
  iapply Hk
  iexists ((m.access r).write (Elt F) f X Finset.univ)
  isplitr; · ipureintro; exact View.read_write_univ _ _
  iexact H

/-- What a view reads after a copy, through re-indexings of the two views to one shape, is what the other view read. -/
theorem read_landed {κ κ' : Kind} {sp sp' : Space} {s s' : Shape} (v : View sig κ sp s e) (v' : View sig κ' sp' s e) (h : s'.numel = s.numel)
    (f : v.ty.Contents (Elt F)) (f' : v'.ty.Contents (Elt F)) :
    v'.read (Elt F) ((v'.reshape s' h).write (Elt F) f' ((v.reshape s' h).read (Elt F) f) Finset.univ) = v.read (Elt F) f := by
  funext y
  obtain ⟨x, rfl⟩ := (Shape.reshapeEquiv h).surjective y
  rw [View.read_write_reshape]
  rfl

end Box

end Cert.KernelIdeal.Proto

end
-- ==== Proof.KernelIdeal.Protocol.lean ====
/-
# The protocol: who signals whom, with what, and in which order

Every device has one barrier cell with sixteen duties, and 62 cells of the copies with one duty each. The duties of a
barrier cell are paid by the partner (duty `0`, with the partner's sixteen landing slabs for the first phase) and by
the fifteen others of the plane (duty `o`, with the one landing slab of theirs that this device will write in the
second phase). A copy's cell hands over the slab that left, or the slab that arrived with what arrived in it.
-/
module

public import proofs.«01_k».proof.Proof.KernelIdeal.Boxes
public import Mathlib.Tactic.DeriveFintype

@[expose] public section

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The values -/

/-- Device `p`'s columns of `x`, as its body finds them. -/
def xstg (p : Dev nD) : (cc0_stg0_0 : Ref sig .tc).ty.Contents (Elt F) :=
  (win0_0.blk (0 : Fin 1)).view.read (Elt F) (m ((p : Thread nD τ).loc main_arg0))
/-- Device `p`'s rows of `w`. -/
def wstg (p : Dev nD) : (cc0_stg1_0 : Ref sig .tc).ty.Contents (Elt F) :=
  (win0_1.blk (0 : Fin 1)).view.read (Elt F) (m ((p : Thread nD τ).loc main_arg1))

/-- Device `p`'s part of the product, at the rows that are device `d`'s. -/
def dotAt (p d : Dev nD) : FVec F S1x32x1024 .bf16 :=
  prodV ((xM.access (xR d)).read (Elt F) (xstg m p)) ((wM.access wR).read (Elt F) (wstg m p))
/-- The part of `q` and its partner together. -/
def combAt (q d : Dev nD) : FVec F S1x32x1024 .bf16 := sumV (dotAt m q d) (dotAt m (partner q) d)
/-- Everything summed, on device `c`. -/
def accAt (c : Dev nD) : FVec F S32x1024 .f32 :=
  (l15.map fun o => combAt m (pl (-o.succ) c) c).foldl accStep (acc₀ (dotAt m c c) (dotAt m (partner c) c))
/-- Device `c`'s rows of the result. -/
def outAt (c : Dev nD) : FVec F S32x1024 .f32 := siluV (accAt m c)

/-! ## The cells -/

/-- The cells of the copies: left and landed, in the first phase and in the second. -/
inductive OK
  | xs (o : Fin 16)
  | xr (o : Fin 16)
  | ps (o : Fin 15)
  | pr (o : Fin 15)
  deriving DecidableEq, Fintype

/-- A device's own semaphores. -/
abbrev osem : OK → SemLoc sig
  | .xs o => .dma (xsS o)
  | .xr o => .dma (xrS o)
  | .ps o => .dma (psS o)
  | .pr o => .dma (prS o)
/-- Those and the barrier's, `none`. -/
abbrev csem : Option OK → SemLoc sig
  | none => .reg barS
  | some k => osem k

theorem osem_inj : Function.Injective osem := by decide +kernel
theorem csem_inj : Function.Injective csem := by
  rintro (_ | k) (_ | k') h
  · rfl
  · exact absurd h (by cases k' <;> exact fun h => by cases h)
  · exact absurd h (by cases k <;> exact fun h => by cases h)
  · rw [osem_inj h]

abbrev kcell (c : Dev nD) (k : Option OK) : GSem nD τ sig := ((c : Thread nD τ), csem k)
abbrev barC (c : Dev nD) : GSem nD τ sig := ((c : Thread nD τ), .reg barS)
abbrev xsC (c : Dev nD) (o : Fin 16) : GSem nD τ sig := ((c : Thread nD τ), .dma (xsS o))
abbrev xrC (c : Dev nD) (o : Fin 16) : GSem nD τ sig := ((c : Thread nD τ), .dma (xrS o))
abbrev psC (c : Dev nD) (o : Fin 15) : GSem nD τ sig := ((c : Thread nD τ), .dma (psS o))
abbrev prC (c : Dev nD) (o : Fin 15) : GSem nD τ sig := ((c : Thread nD τ), .dma (prS o))

/-- Which of the protocol's semaphores a semaphore is. -/
def kindOf (s : SemLoc sig) : Option (Option OK) := if h : ∃ k, csem k = s then some h.choose else none

theorem kindOf_csem (k : Option OK) : kindOf (csem k) = some k := by
  have h : ∃ k', csem k' = csem k := ⟨k, rfl⟩
  unfold kindOf
  rw [dif_pos h, csem_inj h.choose_spec]

theorem kindOf_some {s : SemLoc sig} {k : Option OK} (h : kindOf s = some k) : s = csem k := by
  unfold kindOf at h
  split at h
  · rename_i hs; rw [← Option.some.inj h]; exact hs.choose_spec.symm
  · cases h

/-- The credit of one slab. -/
abbrev N : ℕ := (slot16 xrM 0).view.dmaCredit
theorem N_pos : 0 < N := View.dmaCredit_pos _ (by decide)

/-! ## The schedule -/

/-- What a duty of device `c`'s cell hands to `c`. -/
def pay (c : Dev nD) : Option OK → Fin 16 → sProp 𝕄
  | none, d => Fin.cases (bag (fun o => room (partner c) xrM (r16 o)) l16) (fun j => room (pl (-j.succ) c) prM (r15 j.rev)) d
  | some (.xs o), _ => room c partM (partR (partner (pl o c)))
  | some (.xr o), _ => box c xrM (r16 o) (dotAt m (partner c) (pl o c))
  | some (.ps o), _ => room c combM (r16 o.succ)
  | some (.pr o), _ => box c prM (r15 o) (combAt m (pl (-o.succ) c) c)

omit [FloatOps F] in
theorem bag_storable {A : Type} (Φ : A → sProp 𝕄) [h : ∀ a, BI.Storable (upEmb : UEmb _ 𝕄) (Φ a)] :
    ∀ l : List A, BI.Storable (upEmb : UEmb _ 𝕄) (bag Φ l)
  | [] => by unfold bag; infer_instance
  | a :: l => by
    have := bag_storable Φ l
    unfold bag; infer_instance

instance pay_storable (c : Dev nD) (k : Option OK) (d : Fin 16) : BI.Storable (upEmb : UEmb _ 𝕄) (pay m c k d) := by
  rcases k with _ | (o | o | o | o)
  · refine Fin.cases ?_ (fun j => ?_) d
    · exact bag_storable _ _
    · exact room_storable _ _ _
  · exact room_storable _ _ _
  · exact box_storable _ _ _ _
  · exact room_storable _ _ _
  · exact box_storable _ _ _ _

/-- The duties of a cell's first round. -/
def dutiesOf : Option (Option OK) → Finset (Fin 16)
  | none => ∅
  | some none => Finset.univ
  | some (some _) => {0}
/-- Their amounts. -/
def amountOf : Option (Option OK) → ℕ
  | some none => 1
  | _ => N
/-- What they hand over. -/
def payOf (c : Dev nD) : Option (Option OK) → Fin 16 → sProp 𝕄
  | none, _ => iprop(emp)
  | some k, d => pay m c k d

instance payOf_storable (c : Dev nD) (k : Option (Option OK)) (d : Fin 16) : BI.Storable (upEmb : UEmb _ 𝕄) (payOf m c k d) := by
  cases k <;> unfold payOf <;> infer_instance

theorem amountOf_pos : ∀ k, 0 < amountOf k
  | none => N_pos
  | some none => Nat.one_pos
  | some (some _) => N_pos

def sched : Rounds.Schedule (GSem nD τ sig) (Fin 16) 𝕄 where
  duties g r := if r = 0 ∧ g.1.2 = .tc then dutiesOf (kindOf g.2) else ∅
  unitless _ := False
  amount g _ _ := amountOf (kindOf g.2)
  payload g _ d := payOf m g.1.1 (kindOf g.2) d
  amount_pos g _ _ _ := amountOf_pos _

instance sched_payload_storable (g : GSem nD τ sig) (r : ℕ) (d : Fin 16) :
    BI.Storable (upEmb : UEmb _ 𝕄) ((sched (F := F) m).payload g r d) := payOf_storable m g.1.1 (kindOf g.2) d

section Sched
variable (c : Dev nD)

theorem duties_at (k : Option OK) : (sched (F := F) m).duties (kcell c k) 0 = dutiesOf (some k) := by
  dsimp only [sched]; rw [if_pos ⟨rfl, rfl⟩, kindOf_csem]
theorem duties_later (g : GSem nD τ sig) (r : ℕ) (hr : 1 ≤ r) : (sched (F := F) m).duties g r = ∅ := by
  dsimp only [sched]; rw [if_neg fun h => by omega]
theorem amount_at (k : Option OK) (d : Fin 16) : (sched (F := F) m).amount (kcell c k) 0 d = amountOf (some k) := by
  dsimp only [sched]; rw [kindOf_csem]
theorem payload_at (k : Option OK) (d : Fin 16) : (sched (F := F) m).payload (kcell c k) 0 d = pay m c k d := by
  dsimp only [sched]; rw [kindOf_csem]; rfl

theorem expect_bar : (sched (F := F) m).expect (kcell c none) 0 = 16 := by
  unfold Schedule.expect Schedule.amountOf
  rw [duties_at, Finset.sum_congr rfl fun d _ => amount_at m c none d]
  decide
theorem expect_own (k : OK) : (sched (F := F) m).expect (kcell c (some k)) 0 = N := by
  unfold Schedule.expect Schedule.amountOf
  rw [duties_at, Finset.sum_congr rfl fun d _ => amount_at m c (some k) d]
  exact Finset.sum_singleton _ _

theorem rest_own (k : OK) : bigSep ((sched (F := F) m).duties (kcell c (some k)) 0 \ ∅) (fun d => (sched (F := F) m).payload (kcell c (some k)) 0 d)
    = pay m c (some k) 0 := by
  rw [Finset.sdiff_empty, duties_at]
  unfold dutiesOf
  rw [bigSep_singleton, payload_at]

theorem l16_all : (Finset.univ : Finset (Fin 16)) = l16.toFinset := by decide
theorem l16_nodup : l16.Nodup := by decide
theorem l15_all : (Finset.univ : Finset (Fin 15)) = l15.toFinset := by decide
theorem l15_nodup : l15.Nodup := by decide

theorem neg_negs : ∀ o : Fin 16, - -o = o := by decide

/-- What the barrier's duties hand over together: the partner's landing slabs, and one landing slab of each other device
    of the plane. -/
theorem rest_bar : bigSep ((sched (F := F) m).duties (kcell c none) 0 \ ∅) (fun d => (sched (F := F) m).payload (kcell c none) 0 d)
    = iprop(bag (fun o => room (partner c) xrM (r16 o)) l16 ∗ bag (fun j : Fin 15 => room (pl j.succ c) prM (r15 j)) l15) := by
  rw [Finset.sdiff_empty, duties_at]
  unfold dutiesOf
  rw [show (fun d => (sched (F := F) m).payload (kcell c none) 0 d) = pay m c none from funext fun d => payload_at m c none d,
    bag_all _ (0 :: l15.map fun j => -j.succ) (by decide) (by decide), bag_cons, bag_map]
  have h : (fun j : Fin 15 => pay m c none (-j.succ)) = fun j => room (pl j.succ c) prM (r15 j) := by
    funext j
    have e : -j.succ = j.rev.succ := by revert j; decide
    rw [e]
    show room (pl (-j.rev.succ) c) prM (r15 j.rev.rev) = _
    rw [Fin.rev_rev, ← e, neg_negs]
  rw [h]
  rfl

end Sched

/-! ## What a device owes, and the levels -/

/-- The list's tallies together, so that the first can be taken off last. -/
def owL {A : Type} (f : A → CellTallies nD τ sig Unit) : List A → CellTallies nD τ sig Unit
  | [] => 0
  | a :: l => owL f l + f a

theorem owL_pos {A : Type} {f : A → CellTallies nD τ sig Unit} {g : GSem nD τ sig} {u : Unit} :
    ∀ {l : List A}, 0 < owL f l g u → ∃ a ∈ l, 0 < f a g u
  | [], h => absurd h (Nat.lt_irrefl 0)
  | a :: l, h => by
    rw [owL, Pi.add_apply, Finsupp.add_apply] at h
    rcases Nat.eq_zero_or_pos (f a g u) with h0 | h0
    · rw [h0, Nat.add_zero] at h
      obtain ⟨b, hb, hb'⟩ := owL_pos h
      exact ⟨b, List.mem_cons_of_mem _ hb, hb'⟩
    · exact ⟨a, List.mem_cons_self, h0⟩

theorem tallyAt_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

/-- The unit of the `o`-th signal, the credits of the copies to the partner, and of the copies in the plane. -/
def fS (c : Dev nD) (o : Fin 16) : CellTallies nD τ sig Unit := tallyAt (barC (sigE o c)) () 1
def fX (c : Dev nD) (o : Fin 16) : CellTallies nD τ sig Unit := tallyAt (xrC (partner c) o) () N
def fP (c : Dev nD) (o : Fin 15) : CellTallies nD τ sig Unit := tallyAt (prC (pl o.succ c) o) () N

/-- After the signals a device owes the copies; -/
def O₁ (c : Dev nD) : CellTallies nD τ sig Unit := owL (fP c) l15 + owL (fX c) l16
/-- at launch the signals too. -/
def O₀ (c : Dev nD) : CellTallies nD τ sig Unit := O₁ c + owL (fS c) l16

def L (g : GSem nD τ sig) : Finset Unit := if g.1.2 = .tc then {()} else ∅
theorem L_of_ne (g : GSem nD τ sig) (h : g.1.2 ≠ .tc) : L g = ∅ := if_neg h
theorem L_tc {g : GSem nD τ sig} (h : g.1.2 = .tc) (u : Unit) : u ∈ L g := by
  unfold L; rw [if_pos h]; exact Finset.mem_singleton_self _

/-- Levels: the barrier first, then what lands in the first phase, then in the second. -/
def lvOf : Option (Option OK) → ℕ
  | some none => 1
  | some (some (.xr _)) => 2
  | some (some (.pr _)) => 3
  | _ => 0
def lv (g : GSem nD τ sig) (_ : Unit) : ℕ := lvOf (kindOf g.2)

theorem lv_at (c : Dev nD) (k : Option OK) (u : Unit) : lv (kcell c k) u = lvOf (some k) := by
  unfold lv; rw [kindOf_csem]

/-- Waiting is allowed below everything that is owed. -/
theorem mayWait (c : Dev nD) (s : SemLoc sig) (n : ℕ) (hs : lvOf (kindOf s) ≤ n) (O : CellTallies nD τ sig Unit)
    (hO : ∀ g u, 0 < O g u → g.1.2 = .tc ∧ n < lv g u) :
    (levAts L lv : sProp 𝕄) ⊢ MayWait (c : Thread nD τ) s () O :=
  MayOwe.of_cut (L := L) (lev := lv) n
    (fun p hp => by rw [Finset.mem_singleton.mp hp]; exact L_tc rfl _)
    (fun g u hg => L_tc (hO g u hg).1 u)
    (fun p hp => by rw [Finset.mem_singleton.mp hp]; exact hs)
    (fun g u hg => (hO g u hg).2)

theorem fX_pos {c : Dev nD} {o : Fin 16} {g : GSem nD τ sig} {u : Unit} (h : 0 < fX c o g u) : g.1.2 = .tc ∧ lv g u = 2 := by
  rw [tallyAt_pos h]; exact ⟨rfl, lv_at (partner c) (some (.xr o)) u⟩
theorem fP_pos {c : Dev nD} {o : Fin 15} {g : GSem nD τ sig} {u : Unit} (h : 0 < fP c o g u) : g.1.2 = .tc ∧ lv g u = 3 := by
  rw [tallyAt_pos h]; exact ⟨rfl, lv_at (pl o.succ c) (some (.pr o)) u⟩
theorem fS_pos {c : Dev nD} {o : Fin 16} {g : GSem nD τ sig} {u : Unit} (h : 0 < fS c o g u) : g.1.2 = .tc ∧ lv g u = 1 := by
  rw [tallyAt_pos h]; exact ⟨rfl, lv_at (sigE o c) none u⟩

theorem add_pos_or {O O' : CellTallies nD τ sig Unit} {g : GSem nD τ sig} {u : Unit} (h : 0 < (O + O') g u) : 0 < O g u ∨ 0 < O' g u := by
  rw [Pi.add_apply, Finsupp.add_apply] at h; omega

theorem owP_pos {c : Dev nD} {l : List (Fin 15)} {g : GSem nD τ sig} {u : Unit} (h : 0 < owL (fP c) l g u) : g.1.2 = .tc ∧ lv g u = 3 := by
  obtain ⟨_, -, h⟩ := owL_pos h; exact fP_pos h
theorem O₁_pos {c : Dev nD} {g : GSem nD τ sig} {u : Unit} (h : 0 < O₁ c g u) : g.1.2 = .tc ∧ 1 < lv g u := by
  rcases add_pos_or h with h | h
  · have := owP_pos h; exact ⟨this.1, by omega⟩
  · obtain ⟨_, -, h⟩ := owL_pos h
    have := fX_pos h; exact ⟨this.1, by omega⟩
theorem O₀_pos {c : Dev nD} {g : GSem nD τ sig} {u : Unit} (h : 0 < O₀ c g u) : g.1.2 = .tc ∧ 0 < lv g u := by
  rcases add_pos_or h with h | h
  · have := O₁_pos h; exact ⟨this.1, by omega⟩
  · obtain ⟨_, -, h⟩ := owL_pos h
    have := fS_pos h; exact ⟨this.1, by omega⟩

/-- At the barrier a device owes only copies. -/
theorem mayWait_bar (c : Dev nD) : (levAts L lv : sProp 𝕄) ⊢ MayWait (c : Thread nD τ) (.reg barS) () (O₁ c) :=
  mayWait c _ 1 (le_of_eq (lv_at c none ())) _ fun _ _ => O₁_pos
/-- While it waits for the partner's products it owes only copies of the second phase. -/
theorem mayWait_xr (c : Dev nD) (o : Fin 16) (l : List (Fin 15)) :
    (levAts L lv : sProp 𝕄) ⊢ MayWait (c : Thread nD τ) (.dma (xrS o)) () (owL (fP c) l) :=
  mayWait c _ 2 (le_of_eq (lv_at c (some (.xr o)) ())) _ fun _ _ h => ⟨(owP_pos h).1, by rw [(owP_pos h).2]; decide⟩

end Cert.KernelIdeal.Proto

end
-- ==== Proof.KernelIdeal.Phases.lean ====
/-
# The loops of the body, one by one

Each loop of the body is proved from what its steps need, as a bag over the loop's list, to what they leave behind.
-/
module

public import proofs.«01_k».proof.Proof.KernelIdeal.Protocol

@[expose] public section

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option OK → ℕ)

/-! ## What every device knows -/

/-- Every cell's invariant, that every cell has reached its first round, and the levels. -/
def Ctx : sProp 𝕄 :=
  iprop((bigSep Finset.univ fun ck : Dev nD × Option OK => cellInv ER (sched m) (K ck) (kcell ck.1 ck.2))
    ∗ (bigSep Finset.univ fun ck : Dev nD × Option OK => reached ER (kcell ck.1 ck.2) 0) ∗ levAts L lv)

instance Ctx_persistent : BI.Persistent (Ctx m K) := by unfold Ctx; infer_instance

theorem ctx_inv (c : Dev nD) (k : Option OK) : Ctx m K ⊢ cellInv ER (sched m) (K (c, k)) (kcell c k) := by
  unfold Ctx
  iintro ⟨#H, -, -⟩
  iapply (show (bigSep Finset.univ fun ck : Dev nD × Option OK => cellInv ER (sched m) (K ck) (kcell ck.1 ck.2) : sProp 𝕄)
    ⊢ cellInv ER (sched m) (K (c, k)) (kcell c k) from bigSep_elim (Finset.mem_univ (c, k)))
  iexact H
theorem ctx_reached (c : Dev nD) (k : Option OK) : Ctx m K ⊢ reached ER (kcell c k) 0 := by
  unfold Ctx
  iintro ⟨-, #H, -⟩
  iapply (show (bigSep Finset.univ fun ck : Dev nD × Option OK => reached ER (kcell ck.1 ck.2) 0 : sProp 𝕄)
    ⊢ reached ER (kcell c k) 0 from bigSep_elim (Finset.mem_univ (c, k)))
  iexact H
theorem ctx_lev : Ctx m K ⊢ (levAts L lv : sProp 𝕄) := by
  unfold Ctx
  iintro ⟨-, -, #H⟩
  iexact H

/-- What a device owes, whatever it has waited for. -/
def owesC (c : Dev nD) (O : CellTallies nD τ sig Unit) : sProp 𝕄 := iprop(∃ W : Waits sig Unit, owes (c : Thread nD τ) O W)

variable (c : Dev nD)

/-! ## The single steps -/

theorem sig_step (n : Dev nD) (d : Fin 16) (O : CellTallies nD τ sig Unit) {k : PUnit → Pr F} {Q : PUnit → sProp 𝕄} :
    iprop(Ctx m K ∗ owesC c (O + tallyAt (barC n) () 1) ∗ dutyTok ER (barC n) 0 d ∗ pay m n none d)
      ⊢ iprop((owesC c O -∗ WP c (k ⟨⟩) Q) -∗ WP c (.op (.semSignal (Dev.tc n) barS (1#32).toInt) k) Q) := by
  unfold owesC
  iintro ⟨#HC, ⟨%W, HO⟩, Ht, Hp⟩ Hk
  iapply (Rounds.wp_signal 𝒱₀ ER (sched m) (c : Thread nD τ) none (dst := (n : Thread nD τ)) (κ := K (n, none))
      (d := d) (by rw [show ((n : Thread nD τ), SemLoc.reg barS) = kcell n none from rfl, duties_at]; exact Finset.mem_univ _)
      ((amount_at m n none d).trans (by decide)) () O rfl) $$ [HO Ht Hp]
  · isplitr; · iapply (ctx_inv m K n none); iexact HC
    isplitl [HO]; · iexact HO
    isplitl [Ht]; · iexact Ht
    isplitl [Hp]; · iapply (Entails.of_eq (payload_at m n none d).symm); iexact Hp
    iapply (ctx_reached m K n none); iexact HC
  iintro HO
  iapply Hk
  iexists W; iexact HO

/-- A wait for a whole round of one of the device's cells, which is closed with it. -/
theorem wait_step (k' : Option OK) (N' : ℕ) (hN' : (sched (F := F) m).expect (kcell c k') 0 = N') (O : CellTallies nD τ sig Unit)
    {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem k') N' Q)
    {k : PUnit → Pr F} {Q : PUnit → sProp 𝕄} :
    iprop(Ctx m K ∗ owesC c O ∗ cred (tallyAt (kcell c k') () N') ∗ MayWait (c : Thread nD τ) (csem k') () O ∗ atPos ER (kcell c k') 0 ∅ 0)
      ⊢ iprop(((owesC c O ∗ semVal (kcell c k') 0
            ∗ bigSep ((sched (F := F) m).duties (kcell c k') 0 \ ∅) (fun d => (sched (F := F) m).payload (kcell c k') 0 d)) -∗ WP c (k ⟨⟩) Q)
          -∗ WP c (.op w k) Q) := by
  unfold owesC
  iintro ⟨#HC, ⟨%W, HO⟩, Hc, Hm, Ha⟩ Hk
  iapply (Rounds.wp_wait_rest_token 𝒱₀ ER (sched m) (c : Thread nD τ) none (κ := K (c, k'))
      hw (Set.mem_univ _) () (O := O) (W := W) (R := 0) (m := 0) (T := ∅) (by rw [Nat.zero_add, hN'])) $$ [Hc HO Ha Hm]
  · isplitr; · iapply (ctx_inv m K c k'); iexact HC
    isplitl [Hc]; · iexact Hc
    isplitl [HO]; · iexact HO
    isplitl [Hm]; · iexact Hm
    iexact Ha
  iintro ⟨HO, Ha, -, Hp⟩
  imod (Rounds.cell_close ER (sched m) (Set.mem_univ (K (c, k'))) (fun h => h) (R := 0 + 1) (duties_later m (kcell c k'))) $$ [Ha] with Hz
  · isplitr; · iapply (ctx_inv m K c k'); iexact HC
    iexact Ha
  iapply Hk
  isplitl [HO]; · iexists _; iexact HO
  isplitl [Hz]; · iexact Hz
  iexact Hp

/-- The same for a copy's cell. -/
theorem wait_own (k' : OK) (O : CellTallies nD τ sig Unit) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (osem k') N Q)
    {k : PUnit → Pr F} {Q : PUnit → sProp 𝕄} :
    iprop(Ctx m K ∗ owesC c O ∗ cred (tallyAt (kcell c (some k')) () N) ∗ MayWait (c : Thread nD τ) (osem k') () O ∗ atPos ER (kcell c (some k')) 0 ∅ 0)
      ⊢ iprop(((owesC c O ∗ semVal (kcell c (some k')) 0 ∗ pay m c (some k') 0) -∗ WP c (k ⟨⟩) Q) -∗ WP c (.op w k) Q) := by
  rw [← rest_own]
  exact wait_step m K c (some k') N (expect_own m c k') O hw

/-- And when nothing is owed any more. -/
theorem wait_free (k' : OK) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (osem k') N Q)
    {k : PUnit → Pr F} {Q : PUnit → sProp 𝕄} :
    iprop(Ctx m K ∗ owesC c 0 ∗ cred (tallyAt (kcell c (some k')) () N) ∗ atPos ER (kcell c (some k')) 0 ∅ 0)
      ⊢ iprop(((owesC c 0 ∗ semVal (kcell c (some k')) 0 ∗ pay m c (some k') 0) -∗ WP c (k ⟨⟩) Q) -∗ WP c (.op w k) Q) := by
  iintro ⟨#HC, HO, Hc, Ha⟩
  iapply (wait_own m K c k' 0 hw)
  isplitr; · iexact HC
  isplitl [HO]; · iexact HO
  isplitl [Hc]; · iexact Hc
  isplitr; · rw [MayWait_zero]; iempintro
  iexact Ha

theorem own_duty (k' : OK) : (0 : Fin 16) ∈ (sched (F := F) m).duties (kcell c (some k')) 0 := by
  rw [duties_at m c (some k')]; exact Finset.mem_singleton_self _

/-- Elements held through a re-indexing of a view are those held through the view. -/
theorem held_reshape {s s' : Shape} (v : View sig .tc .vmem s .bf16) (h : s'.numel = s.numel) (f : Buf (Elt F) (v.loc (c : Thread nD τ))) :
    ((v.reshape s' h).loc (c : Thread nD τ) ↦[(v.reshape s' h).set]{fullShare} f : sProp 𝕄) = (v.loc (c : Thread nD τ) ↦[v.set]{fullShare} f) := by
  rw [View.set_reshape]

section Copy

variable {d₁ d₂ : Fin 3 → Nat} {M₁ : Memref sig .tc .vmem ⟨3, d₁⟩ .bf16} {M₂ : Memref sig .tc .vmem ⟨3, d₂⟩ .bf16} {off₁ off₂ : Fin 3 → Nat}

/-- A slab of a buffer of slabs. -/
abbrev slab {d : Fin 3 → Nat} (off : Fin 3 → Nat) (h : ∀ a, off a + S1x32x1024.size a ≤ (⟨3, d⟩ : Shape).size a) : Rect ⟨3, d⟩ :=
  Rect.unit (s := ⟨3, d⟩) off S1x32x1024.size h
/-- The slab as the copies name it. -/
abbrev slotOf {d : Fin 3 → Nat} (M : Memref sig .tc .vmem ⟨3, d⟩ .bf16) (off : Fin 3 → Nat)
    (h : ∀ a, off a + S1x32x1024.size a ≤ (⟨3, d⟩ : Shape).size a) : Memref sig .tc .vmem S32x1024 .bf16 :=
  (M.slice (slab off h) (fun _ => rfl)).squeeze S32x1024 squeezes_S1x32x1024_S32x1024

variable {h₁ : ∀ a, off₁ a + S1x32x1024.size a ≤ (⟨3, d₁⟩ : Shape).size a} {h₂ : ∀ a, off₂ a + S1x32x1024.size a ≤ (⟨3, d₂⟩ : Shape).size a}

theorem held_slot {d : Fin 3 → Nat} (M : Memref sig .tc .vmem ⟨3, d⟩ .bf16) (off : Fin 3 → Nat)
    (h : ∀ a, off a + S1x32x1024.size a ≤ (⟨3, d⟩ : Shape).size a) (f : Buf (Elt F) ((M.access (slab off h)).loc (c : Thread nD τ))) :
    ((slotOf M off h).view.loc (c : Thread nD τ) ↦[(slotOf M off h).view.set]{fullShare} f : sProp 𝕄)
      = ((M.access (slab off h)).loc (c : Thread nD τ) ↦[(M.access (slab off h)).set]{fullShare} f) :=
  held_reshape c (M.access (slab off h)) squeezes_S1x32x1024_S32x1024.numel_eq f

/-- What lands, seen through the view the copy wrote through. -/
theorem landed_box (n : Dev nD) (X : Vec F S1x32x1024 .bf16) (fs : Buf (Elt F) ((M₁.access (slab off₁ h₁)).loc (c : Thread nD τ)))
    (fd : Buf (Elt F) ((M₂.access (slab off₂ h₂)).loc (n : Thread nD τ))) (hfs : (M₁.access (slab off₁ h₁)).read (Elt F) fs = X) :
    ((slotOf M₂ off₂ h₂).view.loc (n : Thread nD τ) ↦[(slotOf M₂ off₂ h₂).view.set]{fullShare}
        ((slotOf M₂ off₂ h₂).view.write (Elt F) fd ((slotOf M₁ off₁ h₁).view.read (Elt F) fs) Finset.univ) : sProp 𝕄)
      ⊢ box n M₂ (slab off₂ h₂) X := by
  rw [held_slot]
  unfold box
  iintro H
  iexists _
  isplitr
  · ipureintro
    exact (read_landed (M₁.access (slab off₁ h₁)) (M₂.access (slab off₂ h₂)) squeezes_S1x32x1024_S32x1024.numel_eq fs fd).trans hfs
  · iexact H

theorem left_room (fs : Buf (Elt F) ((M₁.access (slab off₁ h₁)).loc (c : Thread nD τ))) :
    ((slotOf M₁ off₁ h₁).view.loc (c : Thread nD τ) ↦[(slotOf M₁ off₁ h₁).view.set]{fullShare} fs : sProp 𝕄) ⊢ room c M₁ (slab off₁ h₁) := by
  rw [held_slot]
  unfold room
  iintro H
  iexists fs; iexact H

/-- A copy of one slab into a slab of another device. -/
theorem copy_step (n : Dev nD) (kS kR : OK) {hsc} {hsrc} {hdst} {hsem} (hN : (slotOf M₂ off₂ h₂).view.amount (osem kR) = N)
    (X : Vec F S1x32x1024 .bf16)
    (hS : room c M₁ (slab off₁ h₁) ⊢ pay m c (some kS) 0) (hR : box n M₂ (slab off₂ h₂) X ⊢ pay m n (some kR) 0)
    (O : CellTallies nD τ sig Unit) {k : PUnit → Pr F} {Q : PUnit → sProp 𝕄} :
    iprop(Ctx m K ∗ owesC c (O + tallyAt (kcell n (some kR)) () N) ∗ box c M₁ (slab off₁ h₁) X ∗ room n M₂ (slab off₂ h₂)
        ∗ dutyTok ER (kcell c (some kS)) 0 0 ∗ dutyTok ER (kcell n (some kR)) 0 0)
      ⊢ iprop(((owesC c O ∗ cred (tallyAt (kcell c (some kS)) () N)) -∗ WP c (k ⟨⟩) Q)
          -∗ WP c (.op (.enqueueDma (slotOf M₁ off₁ h₁) (.remote (Dev.tc n) (slotOf M₂ off₂ h₂) (osem kS) hsc) (osem kR) hsrc hdst hsem) k) Q) := by
  iintro ⟨#HC, HO, Hb, Hr, HtS, HtR⟩ Hk
  unfold owesC
  icases HO with ⟨%W, HO⟩
  unfold box room
  icases Hb with ⟨%fs, %hfs, Hb⟩
  icases Hr with ⟨%fd, Hr⟩
  ihave Hb := (Entails.of_eq (held_slot c M₁ off₁ h₁ fs).symm) $$ Hb
  ihave Hr := (Entails.of_eq (held_slot n M₂ off₂ h₂ fd).symm) $$ Hr
  iapply (Rounds.wp_send_pointsTo 𝒱₀ ER (sched m) (c : Thread nD τ) none (c' := (n : Thread nD τ)) (src := slotOf M₁ off₁ h₁) (dst := slotOf M₂ off₂ h₂)
    (sS := osem kS) (sem := osem kR) (κ₁ := K (c, some kS)) (κ₂ := K (n, some kR))
    (r₁ := 0) (r₂ := 0) (d₁ := 0) (d₂ := 0) (fd := fd) (fs := fs) (q := fullShare) (own_duty m c kS) (own_duty m n kR)
    () () N hN (amount_at m c (some kS) 0) (amount_at m n (some kR) 0) O rfl (W := W)
    (((left_room c fs).trans hS).trans (Entails.of_eq (payload_at m c (some kS) 0).symm))
    (((landed_box c n X fs fd hfs).trans hR).trans (Entails.of_eq (payload_at m n (some kR) 0).symm))) $$ [Hb Hr HO HtS HtR]
  · isplitr; · iapply (ctx_inv m K c (some kS)); iexact HC
    isplitr; · iapply (ctx_inv m K n (some kR)); iexact HC
    isplitl [Hb]; · iexact Hb
    isplitl [Hr]; · iexact Hr
    isplitl [HO]; · iexact HO
    isplitl [HtS]; · iexact HtS
    isplitr; · iapply (ctx_reached m K c (some kS)); iexact HC
    isplitl [HtR]; · iexact HtR
    iapply (ctx_reached m K n (some kR)); iexact HC
  iintro ⟨Hc, HO⟩
  iapply Hk
  isplitl [HO]; · iexists W; iexact HO
  iexact Hc

end Copy

end Cert.KernelIdeal.Proto

end
-- ==== Proof.KernelIdeal.Loops.lean ====
/-
# The loops of the body, one by one

Each loop of the body is proved from what its steps need, as a bag over the loop's list, to what they leave behind.
-/
module

public import proofs.«01_k».proof.Proof.KernelIdeal.Phases

@[expose] public section

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (m : (ℓ : Loc nD τ sig) → Buf (Elt F) ℓ) (K : Dev nD × Option OK → ℕ) (c : Dev nD)

/-! ## The signals -/

/-- What the `o`-th signal takes: the duty's token, and what the duty hands over. -/
def sigNeed (o : Fin 16) : sProp 𝕄 := iprop(dutyTok ER (barC (sigE o c)) 0 o ∗ pay m (sigE o c) none o)

theorem sigs_sound (B : CellTallies nD τ sig Unit) {k : Pr F} {Q : PUnit → sProp 𝕄} : ∀ l : List (Fin 16),
    iprop(Ctx m K ∗ owesC c (B + owL (fS c) l) ∗ bag (sigNeed m c) l) ⊢ iprop((owesC c B -∗ WP c k Q) -∗ WP c (sigs c l k) Q)
  | [] => by
    rw [owL, add_zero, sigs]
    iintro ⟨-, HO, -⟩ Hk
    iapply Hk; iexact HO
  | o :: l => by
    rw [owL, ← add_assoc, sigs, bag_cons, sigDev_eq]
    iintro ⟨#HC, HO, Hn, Hb⟩ Hk
    unfold sigNeed fS
    icases Hn with ⟨Ht, Hp⟩
    iapply (sig_step m K c (sigE o c) o (B + owL (fS c) l)) $$ [HO Ht Hp]
    · isplitr; · iexact HC
      isplitl [HO]; · iexact HO
      isplitl [Ht] <;> iassumption
    iintro HO
    iapply (sigs_sound B l) $$ [HO Hb]
    · isplitr; · iexact HC
      isplitl [HO]; · iexact HO
      unfold sigNeed; iexact Hb
    iexact Hk

/-! ## The products -/

/-- The device's columns of `x` and rows of `w` where the body finds them. -/
def inputs : sProp 𝕄 :=
  iprop((((c : Thread nD τ).loc cc0_stg0_0) ↦{fullShare} xstg m c) ∗ (((c : Thread nD τ).loc cc0_stg1_0) ↦{fullShare} wstg m c))

theorem prods_sound {k : Pr F} {Q : PUnit → sProp 𝕄} : ∀ l : List (Dev nD),
    iprop(inputs m c ∗ bag (fun d => room c partM (partR d)) l)
      ⊢ iprop(((inputs m c ∗ bag (fun d => box c partM (partR d) (dotAt m c d)) l) -∗ WP c k Q) -∗ WP c (prods l k) Q)
  | [] => by
    rw [prods, bag_nil, bag_nil]
    iintro H Hk
    iapply Hk; iexact H
  | d :: l => by
    rw [prods, bag_cons, bag_cons]
    unfold inputs
    iintro ⟨⟨Hx, Hw⟩, Hr, Hb⟩ Hk
    iapply (wp_load_rect 𝒱₀ (c : Thread nD τ) none Set.univ (m := xM) (r := xR d) (S := Finset.univ) (Finset.subset_univ _)) $$ Hx; iintro Hx
    iapply (wp_load_rect 𝒱₀ (c : Thread nD τ) none Set.univ (m := wM) (r := wR) (S := Finset.univ) (Finset.subset_univ _)) $$ Hw; iintro Hw
    iapply (load_room (c := c) (m := partM) (r := partR d)) $$ Hr; iintro Hr
    iapply (store_room (c := c) (m := partM) (r := partR d) (X := dotAt m c d)) $$ Hr; iintro Hr
    ihave IH := (prods_sound (k := k) (Q := Q) l) $$ [Hx Hw Hb]
    · unfold inputs
      isplitl [Hx Hw]
      · isplitl [Hx] <;> iassumption
      · iexact Hb
    iapply IH
    unfold inputs
    iintro ⟨Hi, Hb⟩
    iapply Hk
    isplitl [Hi]; · iexact Hi
    isplitl [Hr] <;> iassumption

/-! ## The copies to the partner -/

theorem credit16 (M : Memref sig .tc .vmem S16x32x1024 .bf16) (o : Fin 16) (q : DmaSem sig) : (slot16 M o).view.amount (.dma q) = N := rfl
theorem credit15 (M : Memref sig .tc .vmem S15x32x1024 .bf16) (o : Fin 15) (q : DmaSem sig) : (slot15 M o).view.amount (.dma q) = N := rfl

/-- What the `o`-th copy to the partner takes, and what it leaves. -/
def xNeed (o : Fin 16) : sProp 𝕄 :=
  iprop(box c partM (partR (partner (pl o c))) (dotAt m c (partner (pl o c))) ∗ room (partner c) xrM (r16 o)
    ∗ dutyTok ER (xsC c o) 0 0 ∗ dutyTok ER (xrC (partner c) o) 0 0)

theorem xSend_step (o : Fin 16) (B : CellTallies nD τ sig Unit) (n : Dev nD) (hn : n = partner c) (off : Fin 3 → Nat)
    (h : ∀ a, off a + S1x32x1024.size a ≤ S32x32x1024.size a) (hoff : off = rowOff (partner (pl o c))) {hsc} {hsrc} {hdst} {hsem}
    {k : PUnit → Pr F} {Q : PUnit → sProp 𝕄} :
    iprop(Ctx m K ∗ owesC c (B + fX c o) ∗ xNeed m c o)
      ⊢ iprop(((owesC c B ∗ cred (tallyAt (xsC c o) () N)) -∗ WP c (k ⟨⟩) Q)
          -∗ WP c (.op (.enqueueDma (partSlot off h) (.remote (Dev.tc n) (slot16 xrM o) (.dma (xsS o)) hsc) (.dma (xrS o)) hsrc hdst hsem) k) Q) := by
  subst hn hoff
  exact copy_step (M₁ := partM) (M₂ := xrM) (off₁ := rowOff (partner (pl o c))) (off₂ := ![o.val, 0, 0]) (h₁ := inbPart _) (h₂ := inb16 o)
    m K c (partner c) (.xs o) (.xr o) (credit16 xrM o _) (dotAt m c (partner (pl o c))) (BI.Entails.refl _)
    (show box (partner c) xrM (r16 o) (dotAt m c (partner (pl o c))) ⊢ box (partner c) xrM (r16 o) (dotAt m (partner (partner c)) (pl o (partner c)))
      from Entails.of_eq (by rw [partner_partner, pl_partner])) B

theorem xSends_sound (B : CellTallies nD τ sig Unit) {k : Pr F} {Q : PUnit → sProp 𝕄} : ∀ l : List (Fin 16),
    iprop(Ctx m K ∗ owesC c (B + owL (fX c) l) ∗ bag (xNeed m c) l)
      ⊢ iprop(((owesC c B ∗ bag (fun o => cred (tallyAt (xsC c o) () N)) l) -∗ WP c k Q) -∗ WP c (xSends c l k) Q)
  | [] => by
    rw [owL, add_zero, xSends, bag_nil, bag_nil]
    iintro ⟨-, HO, Hb⟩ Hk
    iapply Hk
    isplitl [HO] <;> iassumption
  | o :: l => by
    rw [owL, ← add_assoc, xSends, bag_cons, bag_cons]
    iintro ⟨#HC, HO, Hn, Hb⟩ Hk
    iapply (xSend_step m K c o (B + owL (fX c) l) _ (xDev_eq c o) _ (k0_off1_inb c o) (off1_eq c o)) $$ [HO Hn]
    · isplitr; · iexact HC
      isplitl [HO] <;> iassumption
    iintro ⟨HO, Hc⟩
    ihave IH := (xSends_sound B (k := k) (Q := Q) l) $$ [HO Hb]
    · isplitr; · iexact HC
      isplitl [HO] <;> iassumption
    iapply IH
    iintro ⟨HO, Hb⟩
    iapply Hk
    isplitl [HO]; · iexact HO
    isplitl [Hc] <;> iassumption

/-! ## The sums for the plane -/

/-- What the `o`-th sum takes, and what it leaves. -/
def midNeed (o : Fin 15) : sProp 𝕄 :=
  iprop(cred (tallyAt (xrC c o.succ) () N) ∗ atPos ER (xrC c o.succ) 0 ∅ 0 ∗ box c partM (partR (pl o.succ c)) (dotAt m c (pl o.succ c))
    ∗ room c combM (r16 o.succ) ∗ room (pl o.succ c) prM (r15 o) ∗ dutyTok ER (psC c o) 0 0 ∗ dutyTok ER (prC (pl o.succ c) o) 0 0)
def midLeave (o : Fin 15) : sProp 𝕄 :=
  iprop(semVal (xrC c o.succ) 0 ∗ room c partM (partR (pl o.succ c)) ∗ room c xrM (r16 o.succ) ∗ cred (tallyAt (psC c o) () N))

theorem pSend_step (o : Fin 15) (B : CellTallies nD τ sig Unit) (n : Dev nD) (hn : n = pl o.succ c) {hsc} {hsrc} {hdst} {hsem}
    {k : PUnit → Pr F} {Q : PUnit → sProp 𝕄} :
    iprop(Ctx m K ∗ owesC c (B + fP c o) ∗ box c combM (r16 o.succ) (combAt m c (pl o.succ c)) ∗ room (pl o.succ c) prM (r15 o)
        ∗ dutyTok ER (psC c o) 0 0 ∗ dutyTok ER (prC (pl o.succ c) o) 0 0)
      ⊢ iprop(((owesC c B ∗ cred (tallyAt (psC c o) () N)) -∗ WP c (k ⟨⟩) Q)
          -∗ WP c (.op (.enqueueDma (slot16 combM o.succ) (.remote (Dev.tc n) (slot15 prM o) (.dma (psS o)) hsc) (.dma (prS o)) hsrc hdst hsem) k) Q) := by
  subst hn
  exact copy_step (M₁ := combM) (M₂ := prM) (off₁ := ![o.succ.val, 0, 0]) (off₂ := ![o.val, 0, 0]) (h₁ := inb16 o.succ) (h₂ := inb15 o)
    m K c (pl o.succ c) (.ps o) (.pr o) (credit15 prM o _) (combAt m c (pl o.succ c)) (BI.Entails.refl _)
    (show box (pl o.succ c) prM (r15 o) (combAt m c (pl o.succ c)) ⊢ box (pl o.succ c) prM (r15 o) (combAt m (pl (-o.succ) (pl o.succ c)) (pl o.succ c))
      from Entails.of_eq (by rw [pl_neg_pl])) B

theorem load_part (d : Dev nD) (X : Vec F S1x32x1024 .bf16) (off : Fin 3 → Nat) (h : ∀ a, off a + S1x32x1024.size a ≤ S32x32x1024.size a)
    (hoff : off = rowOff d) {hl : partM.view.LoadsAt (slabR off h).toLoadRect} {k : Vec F S1x32x1024 .bf16 → Pr F} {Q : PUnit → sProp 𝕄} :
    box c partM (partR d) X ⊢ iprop((box c partM (partR d) X -∗ WP c (k X) Q) -∗ WP c (.op (.load partM (slabR off h).toLoadRect hl) k) Q) := by
  subst hoff
  exact load_box

set_option maxRecDepth 100000 in
theorem ctx_mayWait_xr (o : Fin 16) (l : List (Fin 15)) : Ctx m K ⊢ MayWait (c : Thread nD τ) (.dma (xrS o)) () (owL (fP c) l) := by
  refine BI.Entails.trans (ctx_lev m K) ?_
  exact mayWait_xr c o l

theorem mids_sound {k : Pr F} {Q : PUnit → sProp 𝕄} : ∀ l : List (Fin 15),
    iprop(Ctx m K ∗ owesC c (owL (fP c) l) ∗ bag (midNeed m c) l)
      ⊢ iprop(((owesC c 0 ∗ bag (midLeave c) l) -∗ WP c k Q) -∗ WP c (mids c l k) Q)
  | [] => by
    rw [owL, mids, bag_nil, bag_nil]
    iintro ⟨-, HO, Hb⟩ Hk
    iapply Hk
    isplitl [HO] <;> iassumption
  | o :: l => by
    rw [mids, bag_cons, bag_cons]
    unfold midNeed
    iintro ⟨#HC, HO, ⟨Hc, Ha, Hpart, Hcomb, Hpr, HtS, HtR⟩, Hb⟩ Hk
    iapply (wait_own m K c (.xr o.succ) (owL (fP c) (o :: l)) (fun Q => rfl)) $$ [HO Hc Ha]
    · isplitr; · iexact HC
      isplitl [HO]; · iexact HO
      isplitl [Hc]; · iexact Hc
      isplitr; · iapply (ctx_mayWait_xr m K c o.succ (o :: l)); iexact HC
      iexact Ha
    iintro ⟨HO, Hz, Hxr⟩
    iapply (load_part c (pl o.succ c) (dotAt m c (pl o.succ c)) _ (k0_off2_inb c o) (off2_eq c o)) $$ Hpart; iintro Hpart
    ihave Hxr := (show pay m c (some (.xr o.succ)) 0 ⊢ box c xrM (r16 o.succ) (dotAt m (partner c) (pl o.succ c)) from BI.Entails.refl _) $$ Hxr
    iapply load_box $$ Hxr; iintro Hxr
    iapply load_room $$ Hcomb; iintro Hcomb
    iapply (store_room (X := combAt m c (pl o.succ c))) $$ Hcomb; iintro Hcomb
    rw [owL]
    iapply (pSend_step m K c o (owL (fP c) l) _ (pDev_eq c o)) $$ [HO Hcomb Hpr HtS HtR]
    · isplitr; · iexact HC
      isplitl [HO]; · iexact HO
      isplitl [Hcomb]; · iexact Hcomb
      isplitl [Hpr]; · iexact Hpr
      isplitl [HtS] <;> iassumption
    iintro ⟨HO, Hc⟩
    ihave IH := (mids_sound (k := k) (Q := Q) l) $$ [HO Hb]
    · isplitr; · iexact HC
      isplitl [HO]; · iexact HO
      unfold midNeed; iexact Hb
    iapply IH
    iintro ⟨HO, Hb⟩
    iapply Hk
    isplitl [HO]; · iexact HO
    isplitl [Hz Hpart Hxr Hc]
    · unfold midLeave
      isplitl [Hz]; · iexact Hz
      isplitl [Hpart]; · iapply (box_room (F := F)); iexact Hpart
      isplitl [Hxr]; · iapply (box_room (F := F)); iexact Hxr
      iexact Hc
    iexact Hb

/-! ## The running sum -/

def accNeed (o : Fin 15) : sProp 𝕄 := iprop(cred (tallyAt (prC c o) () N) ∗ atPos ER (prC c o) 0 ∅ 0)
def accLeave (o : Fin 15) : sProp 𝕄 := iprop(semVal (prC c o) 0 ∗ room c prM (r15 o))

theorem accs_sound {k : FVec F S32x1024 .f32 → Pr F} {Q : PUnit → sProp 𝕄} : ∀ (l : List (Fin 15)) (acc : FVec F S32x1024 .f32),
    iprop(Ctx m K ∗ owesC c 0 ∗ bag (accNeed (F := F) c) l)
      ⊢ iprop(((owesC c 0 ∗ bag (accLeave c) l) -∗ WP c (k ((l.map fun o => combAt m (pl (-o.succ) c) c).foldl accStep acc)) Q)
          -∗ WP c (accs l acc k) Q)
  | [], acc => by
    rw [accs, bag_nil, bag_nil]
    iintro ⟨-, HO, Hb⟩ Hk
    iapply Hk
    isplitl [HO] <;> iassumption
  | o :: l, acc => by
    rw [accs, bag_cons, bag_cons, List.map_cons, List.foldl_cons]
    unfold accNeed
    iintro ⟨#HC, HO, ⟨Hc, Ha⟩, Hb⟩ Hk
    iapply (wait_free m K c (.pr o) (fun Q => rfl)) $$ [HO Hc Ha]
    · isplitr; · iexact HC
      isplitl [HO]; · iexact HO
      isplitl [Hc] <;> iassumption
    iintro ⟨HO, Hz, Hpr⟩
    ihave Hpr := (show pay m c (some (.pr o)) 0 ⊢ box c prM (r15 o) (combAt m (pl (-o.succ) c) c) from BI.Entails.refl _) $$ Hpr
    iapply load_box $$ Hpr; iintro Hpr
    ihave IH := (accs_sound (k := k) (Q := Q) l (accStep acc (combAt m (pl (-o.succ) c) c))) $$ [HO Hb]
    · isplitr; · iexact HC
      isplitl [HO]; · iexact HO
      unfold accNeed; iexact Hb
    iapply IH
    iintro ⟨HO, Hb⟩
    iapply Hk
    isplitl [HO]; · iexact HO
    isplitl [Hz Hpr]
    · unfold accLeave
      isplitl [Hz]; · iexact Hz
      iapply (box_room (F := F)); iexact Hpr
    iexact Hb

/-! ## The last waits -/

def xwNeed (o : Fin 16) : sProp 𝕄 := iprop(cred (tallyAt (xsC c o) () N) ∗ atPos ER (xsC c o) 0 ∅ 0)
def xwLeave (o : Fin 16) : sProp 𝕄 := iprop(semVal (xsC c o) 0 ∗ room c partM (partR (partner (pl o c))))
def pwNeed (o : Fin 15) : sProp 𝕄 := iprop(cred (tallyAt (psC c o) () N) ∗ atPos ER (psC c o) 0 ∅ 0)
def pwLeave (o : Fin 15) : sProp 𝕄 := iprop(semVal (psC c o) 0 ∗ room c combM (r16 o.succ))

theorem xWaits_sound {k : Pr F} {Q : PUnit → sProp 𝕄} : ∀ l : List (Fin 16),
    iprop(Ctx m K ∗ owesC c 0 ∗ bag (xwNeed (F := F) c) l)
      ⊢ iprop(((owesC c 0 ∗ bag (xwLeave c) l) -∗ WP c k Q) -∗ WP c (xWaits c l k) Q)
  | [] => by
    rw [xWaits, bag_nil, bag_nil]
    iintro ⟨-, HO, Hb⟩ Hk
    iapply Hk
    isplitl [HO] <;> iassumption
  | o :: l => by
    rw [xWaits, bag_cons, bag_cons]
    unfold xwNeed
    iintro ⟨#HC, HO, ⟨Hc, Ha⟩, Hb⟩ Hk
    iapply (wait_free m K c (.xs o) (fun Q => rfl)) $$ [HO Hc Ha]
    · isplitr; · iexact HC
      isplitl [HO]; · iexact HO
      isplitl [Hc] <;> iassumption
    iintro ⟨HO, Hz, Hp⟩
    ihave IH := (xWaits_sound (k := k) (Q := Q) l) $$ [HO Hb]
    · isplitr; · iexact HC
      isplitl [HO]; · iexact HO
      unfold xwNeed; iexact Hb
    iapply IH
    iintro ⟨HO, Hb⟩
    iapply Hk
    isplitl [HO]; · iexact HO
    isplitl [Hz Hp]
    · unfold xwLeave pay
      isplitl [Hz] <;> iassumption
    iexact Hb

theorem pWaits_sound {k : Pr F} {Q : PUnit → sProp 𝕄} : ∀ l : List (Fin 15),
    iprop(Ctx m K ∗ owesC c 0 ∗ bag (pwNeed (F := F) c) l)
      ⊢ iprop(((owesC c 0 ∗ bag (pwLeave c) l) -∗ WP c k Q) -∗ WP c (pWaits l k) Q)
  | [] => by
    rw [pWaits, bag_nil, bag_nil]
    iintro ⟨-, HO, Hb⟩ Hk
    iapply Hk
    isplitl [HO] <;> iassumption
  | o :: l => by
    rw [pWaits, bag_cons, bag_cons]
    unfold pwNeed
    iintro ⟨#HC, HO, ⟨Hc, Ha⟩, Hb⟩ Hk
    iapply (wait_free m K c (.ps o) (fun Q => rfl)) $$ [HO Hc Ha]
    · isplitr; · iexact HC
      isplitl [HO]; · iexact HO
      isplitl [Hc] <;> iassumption
    iintro ⟨HO, Hz, Hp⟩
    ihave IH := (pWaits_sound (k := k) (Q := Q) l) $$ [HO Hb]
    · isplitr; · iexact HC
      isplitl [HO]; · iexact HO
      unfold pwNeed; iexact Hb
    iapply IH
    iintro ⟨HO, Hb⟩
    iapply Hk
    isplitl [HO]; · iexact HO
    isplitl [Hz Hp]
    · unfold pwLeave pay
      isplitl [Hz] <;> iassumption
    iexact Hb

end Cert.KernelIdeal.Proto

end
-- ==== Proof.KernelIdeal.Rooms.lean ====
/-
# A buffer of slabs, whole and cut

At its start the body holds each of its four buffers whole; the protocol wants the slabs. Here a buffer is cut into its
slabs, and put together again at the end.
-/
module

public import proofs.«01_k».proof.Proof.KernelIdeal.Loops

@[expose] public section

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-! ## Cutting a buffer by a family of rectangles -/

section Cut

variable {s : Shape} {e : EltTy} {B : Type} [Fintype B] [DecidableEq B] (M : Memref sig .tc .vmem s e) (hM : M.view.set = Finset.univ) (r : B → Rect s)
  (hd : ∀ k k', k ≠ k' → Disjoint (r k).set (r k').set) (hc : ∀ i : s.Idx, ∃ k, i ∈ (r k).set)

/-- The buffer's elements under a rectangle. -/
abbrev under (r : Rect s) : Finset M.view.ty.Idx := (M.access r).set

omit [Fintype B] [DecidableEq B] in
include hd in
theorem under_disjoint (k k' : B) (h : k ≠ k') : Disjoint (under M (r k)) (under M (r k')) := View.disjoint_slice (v := M.view) (hd k k' h)

omit [DecidableEq B] in
include hM hc in
theorem under_cover : Finset.univ.biUnion (fun k => under M (r k)) = Finset.univ := by
  refine Finset.eq_univ_of_forall fun x => ?_
  have hx : x ∈ M.view.set := by rw [hM]; exact Finset.mem_univ x
  obtain ⟨i, -, rfl⟩ := Finset.mem_map.mp hx
  obtain ⟨k, hk⟩ := hc i
  refine Finset.mem_biUnion.mpr ⟨k, Finset.mem_univ _, ?_⟩
  show _ ∈ (M.view.slice (r k)).set
  rw [View.set_slice]
  exact Finset.mem_map_of_mem _ hk

/-- The whole buffer with anything in it. -/
def hall : sProp 𝕄 := iprop(∃ f : Buf (Elt F) (M.view.loc (c : Thread nD τ)), (M.view.loc (c : Thread nD τ) ↦{fullShare} f))

omit [Fintype B] [DecidableEq B] in
theorem room_intro (k : B) (f : Buf (Elt F) (M.view.loc (c : Thread nD τ))) :
    (M.view.loc (c : Thread nD τ) ↦[under M (r k)]{fullShare} f : sProp 𝕄) ⊢ room c M (r k) := by
  unfold room
  iintro H
  iexists f; iexact H

omit [DecidableEq B] in
include hM hd hc in
theorem hall_cut_at (f : Buf (Elt F) (M.view.loc (c : Thread nD τ))) :
    (M.view.loc (c : Thread nD τ) ↦{fullShare} f : sProp 𝕄) ⊢ bigSep Finset.univ fun k => room c M (r k) := by
  rw [Ring.pointsTo_blocks (ℓ := M.view.loc (c : Thread nD τ)) (fun k => under M (r k)) (under_disjoint M r hd) (under_cover M hM r hc) f]
  exact bigSep_mono fun k _ => room_intro c M r k f

omit [DecidableEq B] in
include hM hd hc in
theorem hall_cut : hall (F := F) c M ⊢ bigSep Finset.univ fun k => room c M (r k) := by
  unfold hall
  iintro ⟨%f, H⟩
  iapply (hall_cut_at c M hM r hd hc f)
  iexact H

include hM hd hc in
theorem hall_join (f₀ : Buf (Elt F) (M.view.loc (c : Thread nD τ))) : (bigSep Finset.univ fun k => room c M (r k)) ⊢ hall (F := F) c M :=
  Ring.pointsTo_blocks_join_exists (ℓ := M.view.loc (c : Thread nD τ)) (fun k => under M (r k)) (under_disjoint M r hd) (under_cover M hM r hc) f₀

end Cut

/-! ## Slabs -/

section Slabs

variable {d : Fin 3 → Nat} {B : Type} [Fintype B] [DecidableEq B] (off : B → Nat)
  (h : ∀ k a, (![off k, 0, 0] : Fin 3 → Nat) a + S1x32x1024.size a ≤ (⟨3, d⟩ : Shape).size a)

theorem mem_slab (k : B) (i : (⟨3, d⟩ : Shape).Idx) (h1 : d 1 = 32) (h2 : d 2 = 1024) :
    i ∈ (slab ![off k, 0, 0] (h k)).set ↔ (i 0 : Nat) = off k := by
  rw [Rect.mem_set_unit]
  constructor
  · intro hi
    have := hi 0
    have e0 : (![off k, 0, 0] : Fin 3 → Nat) 0 = off k := rfl
    have e1 : S1x32x1024.size 0 = 1 := rfl
    rw [e0, e1] at this
    omega
  · intro hi a
    have hlt := (i a).isLt
    fin_cases a
    · exact ⟨le_of_eq hi.symm, lt_of_eq_of_lt hi (Nat.lt_succ_self _)⟩
    · exact ⟨Nat.zero_le _, lt_of_lt_of_eq hlt (h1.trans (Nat.zero_add 32).symm)⟩
    · exact ⟨Nat.zero_le _, lt_of_lt_of_eq hlt (h2.trans (Nat.zero_add 1024).symm)⟩

theorem slab_disjoint (hinj : Function.Injective off) (h1 : d 1 = 32) (h2 : d 2 = 1024) (k k' : B) (hk : k ≠ k') :
    Disjoint (slab ![off k, 0, 0] (h k)).set (slab ![off k', 0, 0] (h k')).set := by
  rw [Finset.disjoint_left]
  intro i hi hi'
  rw [mem_slab off h k i h1 h2] at hi
  rw [mem_slab off h k' i h1 h2] at hi'
  exact hk (hinj (hi.symm.trans hi'))

theorem slab_cover (hsur : ∀ n < d 0, ∃ k, off k = n) (h1 : d 1 = 32) (h2 : d 2 = 1024) (i : (⟨3, d⟩ : Shape).Idx) :
    ∃ k, i ∈ (slab ![off k, 0, 0] (h k)).set := by
  obtain ⟨k, hk⟩ := hsur (i 0) (i 0).isLt
  exact ⟨k, (mem_slab off h k i h1 h2).mpr hk.symm⟩

end Slabs

/-! ## The four buffers -/

theorem row_sur : ∀ n < 32, ∃ d : Dev nD, row d = n := by decide +kernel
theorem lDev_all : (Finset.univ : Finset (Dev nD)) = lDev.toFinset := by decide +kernel
theorem lDev_nodup : lDev.Nodup := by decide +kernel
/-- The devices at the places of the other plane, then those of the plane. -/
theorem planes_all : ∀ c : Dev nD, (Finset.univ : Finset (Dev nD)) = (l16.map (fun o => partner (pl o c)) ++ l16.map fun o => pl o c).toFinset := by
  decide +kernel
theorem planes_nodup : ∀ c : Dev nD, (l16.map (fun o => partner (pl o c)) ++ l16.map fun o => pl o c).Nodup := by decide +kernel

/-- Something of every device is something of every place of the other plane and of the plane. -/
theorem by_planes (Φ : Dev nD → sProp 𝕄) : bag Φ lDev = iprop(bag (fun o => Φ (partner (pl o c))) l16 ∗ bag (fun o => Φ (pl o c)) l16) := by
  rw [← bag_all Φ lDev lDev_all lDev_nodup, bag_all Φ _ (planes_all c) (planes_nodup c), bag_append, bag_map, bag_map]

theorem part_cut : hall (F := F) c partM ⊢ bag (fun d => room c partM (partR d)) lDev := by
  rw [← bag_all _ lDev lDev_all lDev_nodup]
  exact hall_cut c partM (View.set_whole _) partR (slab_disjoint row inbPart (fun d e h => row_inj d e h) rfl rfl) (slab_cover row inbPart row_sur rfl rfl)
theorem part_join (f₀ : Buf (Elt F) (partM.view.loc (c : Thread nD τ))) : bag (fun d => room c partM (partR d)) lDev ⊢ hall (F := F) c partM := by
  rw [← bag_all _ lDev lDev_all lDev_nodup]
  exact hall_join c partM (View.set_whole _) partR (slab_disjoint row inbPart (fun d e h => row_inj d e h) rfl rfl) (slab_cover row inbPart row_sur rfl rfl) f₀

theorem cut16 (M : Memref sig .tc .vmem S16x32x1024 .bf16) (hM : M.view.set = Finset.univ) : hall (F := F) c M ⊢ bag (fun o => room c M (r16 o)) l16 := by
  rw [← bag_all _ l16 l16_all l16_nodup]
  exact hall_cut c M hM r16 (slab_disjoint Fin.val inb16 Fin.val_injective rfl rfl) (slab_cover Fin.val inb16 (fun n h => ⟨⟨n, h⟩, rfl⟩) rfl rfl)
theorem join16 (M : Memref sig .tc .vmem S16x32x1024 .bf16) (hM : M.view.set = Finset.univ) (f₀ : Buf (Elt F) (M.view.loc (c : Thread nD τ))) :
    bag (fun o => room c M (r16 o)) l16 ⊢ hall (F := F) c M := by
  rw [← bag_all _ l16 l16_all l16_nodup]
  exact hall_join c M hM r16 (slab_disjoint Fin.val inb16 Fin.val_injective rfl rfl) (slab_cover Fin.val inb16 (fun n h => ⟨⟨n, h⟩, rfl⟩) rfl rfl) f₀
theorem cut15 (M : Memref sig .tc .vmem S15x32x1024 .bf16) (hM : M.view.set = Finset.univ) : hall (F := F) c M ⊢ bag (fun o => room c M (r15 o)) l15 := by
  rw [← bag_all _ l15 l15_all l15_nodup]
  exact hall_cut c M hM r15 (slab_disjoint Fin.val inb15 Fin.val_injective rfl rfl) (slab_cover Fin.val inb15 (fun n h => ⟨⟨n, h⟩, rfl⟩) rfl rfl)
theorem join15 (M : Memref sig .tc .vmem S15x32x1024 .bf16) (hM : M.view.set = Finset.univ) (f₀ : Buf (Elt F) (M.view.loc (c : Thread nD τ))) :
    bag (fun o => room c M (r15 o)) l15 ⊢ hall (F := F) c M := by
  rw [← bag_all _ l15 l15_all l15_nodup]
  exact hall_join c M hM r15 (slab_disjoint Fin.val inb15 Fin.val_injective rfl rfl) (slab_cover Fin.val inb15 (fun n h => ⟨⟨n, h⟩, rfl⟩) rfl rfl) f₀

end Cert.KernelIdeal.Proto

end
-- ==== Proof.KernelIdeal.Body.lean ====
/-
# The body

From a device's share of the protocol, its inputs and its buffers, the body runs to the end: its rows of the result are
in place, everything it held it holds again, and its counters are at zero.
-/
module

public import proofs.«01_k».proof.Proof.KernelIdeal.Rooms

@[expose] public section

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (m : (ℓ : Loc nD τ sig) → Buf (Elt F) ℓ) (K : Dev nD × Option OK → ℕ) (c : Dev nD)

/-! ## One thing for each semaphore -/

/-- The own semaphores in order. -/
def lOK : List OK := l16.map OK.xs ++ (l16.map OK.xr ++ (l15.map OK.ps ++ l15.map OK.pr))

theorem lOK_all : (Finset.univ : Finset OK) = lOK.toFinset := by decide +kernel
theorem lOK_nodup : lOK.Nodup := by decide +kernel
theorem lSome_all : (Finset.univ : Finset (Option OK)) = (none :: lOK.map some).toFinset := by decide +kernel
theorem lSome_nodup : (none :: lOK.map some).Nodup := by decide +kernel

theorem own_kinds (Φ : OK → sProp 𝕄) : bigSep Finset.univ Φ
    = iprop(bag (fun o => Φ (.xs o)) l16 ∗ bag (fun o => Φ (.xr o)) l16 ∗ bag (fun o => Φ (.ps o)) l15 ∗ bag (fun o => Φ (.pr o)) l15) := by
  rw [bag_all Φ lOK lOK_all lOK_nodup, lOK, bag_append, bag_append, bag_append, bag_map, bag_map, bag_map, bag_map]

theorem all_kinds (Φ : Option OK → sProp 𝕄) : bigSep Finset.univ Φ = iprop(Φ none ∗ bigSep Finset.univ fun k => Φ (some k)) := by
  rw [bag_all Φ _ lSome_all lSome_nodup, bag_cons, bag_map, bag_all (fun k => Φ (some k)) lOK lOK_all lOK_nodup]

/-- The first of sixteen and the fifteen others. -/
theorem bag16 (Φ : Fin 16 → sProp 𝕄) : bag Φ l16 = iprop(Φ 0 ∗ bag (fun o : Fin 15 => Φ o.succ) l15) := by
  rw [show l16 = 0 :: l15.map Fin.succ from by decide, bag_cons, bag_map]

/-! ## What the body starts from and ends with -/

/-- The device's position at each of its cells. -/
def positions : sProp 𝕄 := bigSep Finset.univ fun k : Option OK => atPos ER (kcell c k) 0 ∅ 0

/-- The tokens of the duties the device pays. -/
def tokens : sProp 𝕄 :=
  iprop(bag (fun o => dutyTok ER (barC (sigE o c)) 0 o) l16 ∗ bag (fun o => dutyTok ER (xsC c o) 0 0) l16
    ∗ bag (fun o => dutyTok ER (xrC (partner c) o) 0 0) l16 ∗ bag (fun o : Fin 15 => dutyTok ER (psC c o) 0 0) l15
    ∗ bag (fun o : Fin 15 => dutyTok ER (prC (pl o.succ c) o) 0 0) l15)

/-- What is coming to the device's cells from others. -/
def credits : sProp 𝕄 :=
  iprop(cred (tallyAt (barC c) () 16) ∗ bag (fun o => cred (tallyAt (xrC c o) () N)) l16 ∗ bag (fun o => cred (tallyAt (prC c o) () N)) l15)

/-- The four buffers of slabs, whole. -/
def bufs : sProp 𝕄 := iprop(hall (F := F) c partM ∗ hall (F := F) c xrM ∗ hall (F := F) c combM ∗ hall (F := F) c prM)

/-- The device's cells closed, every counter at zero. -/
def zeros : sProp 𝕄 := bigSep Finset.univ fun k : Option OK => semVal (kcell c k) 0

/-- The output buffer. -/
def outHas (f : (cc0_stg2_0 : Ref sig .tc).ty.Contents (Elt F)) : sProp 𝕄 := (((c : Thread nD τ).loc cc0_stg2_0) ↦{fullShare} f)

/-! ## Regrouping -/

theorem sig_pay : iprop(bag (fun o => room c xrM (r16 o)) l16 ∗ bag (fun o => room c prM (r15 o)) l15) ⊢ bag (fun o => pay m (sigE o c) none o) l16 := by
  refine Entails.of_eq ?_
  rw [bag16 (fun o => pay m (sigE o c) none o)]
  have h0 : pay m (sigE 0 c) none 0 = bag (fun o => room c xrM (r16 o)) l16 := by
    show bag (fun o => room (partner (partner c)) xrM (r16 o)) l16 = _
    rw [partner_partner]
  have hs : (fun j : Fin 15 => pay m (sigE j.succ c) none j.succ) = fun j => room c prM (r15 j.rev) := by
    funext j
    rw [show sigE j.succ = plE j.succ from if_neg (Fin.succ_ne_zero j)]
    show room (pl (-j.succ) (pl j.succ c)) prM (r15 j.rev) = _
    rw [pl_neg_pl]
  rw [h0, hs, ← bag_map (fun o : Fin 15 => room (F := F) c prM (r15 o)) Fin.rev l15,
    ← bag_all (fun o : Fin 15 => room (F := F) c prM (r15 o)) (l15.map Fin.rev) (by decide) (by decide),
    bag_all (fun o : Fin 15 => room (F := F) c prM (r15 o)) l15 l15_all l15_nodup]

theorem sigNeed_intro : iprop(bag (fun o => dutyTok ER (barC (sigE o c)) 0 o) l16 ∗ bag (fun o => room c xrM (r16 o)) l16 ∗ bag (fun o => room c prM (r15 o)) l15)
    ⊢ bag (sigNeed m c) l16 := by
  delta sigNeed
  rw [bag_sep]
  exact BIClass.sep_mono (Entails.refl _) (sig_pay m c)

theorem xNeed_intro : iprop(bag (fun o => box c partM (partR (partner (pl o c))) (dotAt m c (partner (pl o c)))) l16 ∗ bag (fun o => room (partner c) xrM (r16 o)) l16
      ∗ bag (fun o => dutyTok ER (xsC c o) 0 0) l16 ∗ bag (fun o => dutyTok ER (xrC (partner c) o) 0 0) l16)
    ⊢ bag (xNeed m c) l16 := by
  delta xNeed
  rw [bag_sep, bag_sep, bag_sep]

theorem midNeed_intro : iprop(bag (fun o : Fin 15 => cred (tallyAt (xrC c o.succ) () N)) l15 ∗ bag (fun o : Fin 15 => atPos ER (xrC c o.succ) 0 ∅ 0) l15
      ∗ bag (fun o : Fin 15 => box c partM (partR (pl o.succ c)) (dotAt m c (pl o.succ c))) l15 ∗ bag (fun o : Fin 15 => room c combM (r16 o.succ)) l15
      ∗ bag (fun o : Fin 15 => room (pl o.succ c) prM (r15 o)) l15 ∗ bag (fun o : Fin 15 => dutyTok ER (psC c o) 0 0) l15
      ∗ bag (fun o : Fin 15 => dutyTok ER (prC (pl o.succ c) o) 0 0) l15)
    ⊢ bag (midNeed m c) l15 := by
  delta midNeed
  rw [bag_sep, bag_sep, bag_sep, bag_sep, bag_sep, bag_sep]

theorem midLeave_elim : bag (midLeave (F := F) c) l15
    ⊢ iprop(bag (fun o : Fin 15 => semVal (xrC c o.succ) 0) l15 ∗ bag (fun o : Fin 15 => room c partM (partR (pl o.succ c))) l15
      ∗ bag (fun o : Fin 15 => room c xrM (r16 o.succ)) l15 ∗ bag (fun o : Fin 15 => cred (tallyAt (psC c o) () N)) l15) := by
  delta midLeave
  rw [bag_sep, bag_sep, bag_sep]

theorem accNeed_intro : iprop(bag (fun o : Fin 15 => cred (tallyAt (prC c o) () N)) l15 ∗ bag (fun o : Fin 15 => atPos ER (prC c o) 0 ∅ 0) l15)
    ⊢ bag (accNeed (F := F) c) l15 := by
  delta accNeed; rw [bag_sep]
theorem accLeave_elim : bag (accLeave (F := F) c) l15 ⊢ iprop(bag (fun o : Fin 15 => semVal (prC c o) 0) l15 ∗ bag (fun o : Fin 15 => room c prM (r15 o)) l15) := by
  delta accLeave; rw [bag_sep]
theorem xwNeed_intro : iprop(bag (fun o => cred (tallyAt (xsC c o) () N)) l16 ∗ bag (fun o => atPos ER (xsC c o) 0 ∅ 0) l16) ⊢ bag (xwNeed (F := F) c) l16 := by
  delta xwNeed; rw [bag_sep]
theorem xwLeave_elim : bag (xwLeave (F := F) c) l16
    ⊢ iprop(bag (fun o => semVal (xsC c o) 0) l16 ∗ bag (fun o => room c partM (partR (partner (pl o c)))) l16) := by
  delta xwLeave; rw [bag_sep]
theorem pwNeed_intro : iprop(bag (fun o : Fin 15 => cred (tallyAt (psC c o) () N)) l15 ∗ bag (fun o : Fin 15 => atPos ER (psC c o) 0 ∅ 0) l15) ⊢ bag (pwNeed (F := F) c) l15 := by
  delta pwNeed; rw [bag_sep]
theorem pwLeave_elim : bag (pwLeave (F := F) c) l15
    ⊢ iprop(bag (fun o : Fin 15 => semVal (psC c o) 0) l15 ∗ bag (fun o : Fin 15 => room c combM (r16 o.succ)) l15) := by
  delta pwLeave; rw [bag_sep]

/-! ## The pieces of the body in turn -/

theorem hz2 : (![0, 0] : Fin 2 → Nat) = fun _ => 0 := funext fun a => by fin_cases a <;> rfl
theorem write_out (f w : (cc0_stg2_0 : Ref sig .tc).ty.Contents (Elt F)) :
    (oM.access wR : View sig .tc _ _ _).write (Elt F) f w Finset.univ = w :=
  Memref.write_access_unit_zero_univ (Elt F) cc0_stg2_0 hz2 _ f w

/-- The output's store, after a load of it that is not used. -/
theorem out_step (X : FVec F S32x1024 .f32) (f : (cc0_stg2_0 : Ref sig .tc).ty.Contents (Elt F)) {hl hs hm} {k : Pr F} {Q : PUnit → sProp 𝕄} :
    outHas c f ⊢ iprop((outHas c X -∗ WP c k Q)
      -∗ WP c (.op (.load oM wR.toLoadRect hl) fun _ => .op (.store oM wR X Finset.univ hs hm) fun _ => k) Q) := by
  unfold outHas
  iintro H Hk
  iapply (wp_load_rect 𝒱₀ (c : Thread nD τ) none Set.univ (m := oM) (r := wR) (S := Finset.univ) (Finset.subset_univ _)) $$ H; iintro H
  iapply (wp_store 𝒱₀ (c : Thread nD τ) none Set.univ (m := oM) (r := wR) (Mk := Finset.univ) (S := Finset.univ) (Finset.subset_univ _)) $$ H; iintro H
  rw [write_out]
  iapply Hk; iexact H

theorem WP_ret (Q : PUnit → sProp 𝕄) : Q ⟨⟩ ⊢ WP c (.ret ⟨⟩) Q := by
  show Q ⟨⟩ ⊢ wp frame (wpE (defs₀ (F := F)) 𝒱₀ (c : Thread nD τ) none) Set.univ (.ret ⟨⟩) Q
  rw [wp_ret]
  iintro H
  imodintro
  iexact H

set_option maxRecDepth 100000 in
/-- The barrier's wait. -/
theorem bar_step {k : PUnit → Pr F} {Q : PUnit → sProp 𝕄} :
    iprop(Ctx m K ∗ owesC c (O₁ c) ∗ cred (tallyAt (barC c) () 16) ∗ atPos ER (barC c) 0 ∅ 0)
      ⊢ iprop(((owesC c (O₁ c) ∗ semVal (barC c) 0 ∗ bag (fun o => room (partner c) xrM (r16 o)) l16 ∗ bag (fun j : Fin 15 => room (pl j.succ c) prM (r15 j)) l15)
          -∗ WP c (k ⟨⟩) Q) -∗ WP c (.op (.semWait barS (16#32).toInt) k) Q) := by
  rw [← @rest_bar F _ m c]
  iintro ⟨#HC, HO, Hc, Ha⟩
  iapply (wait_step m K c none 16 (expect_bar m c) (O₁ c) (wpE_semWait_eq 𝒱₀ (c : Thread nD τ) none Set.univ))
  isplitr; · iexact HC
  isplitl [HO]; · iexact HO
  isplitl [Hc]; · iexact Hc
  isplitr
  · iapply (show (levAts L lv : sProp 𝕄) ⊢ MayWait (c : Thread nD τ) (csem none) () (O₁ c) from mayWait_bar c)
    iapply (show Ctx m K ⊢ (levAts L lv : sProp 𝕄) from @ctx_lev F _ m K)
    iexact HC
  iexact Ha

/-- What is held when the first phase's copies are under way. -/
def sent : sProp 𝕄 :=
  iprop(inputs m c ∗ (∃ f, outHas c f) ∗ semVal (barC c) 0
    ∗ bag (fun o => atPos ER (xsC c o) 0 ∅ 0) l16 ∗ bag (fun o => atPos ER (xrC c o) 0 ∅ 0) l16
    ∗ bag (fun o : Fin 15 => atPos ER (psC c o) 0 ∅ 0) l15 ∗ bag (fun o : Fin 15 => atPos ER (prC c o) 0 ∅ 0) l15
    ∗ bag (fun o => cred (tallyAt (xsC c o) () N)) l16 ∗ bag (fun o => cred (tallyAt (xrC c o) () N)) l16 ∗ bag (fun o => cred (tallyAt (prC c o) () N)) l15
    ∗ bag (fun o : Fin 15 => dutyTok ER (psC c o) 0 0) l15 ∗ bag (fun o : Fin 15 => dutyTok ER (prC (pl o.succ c) o) 0 0) l15
    ∗ bag (fun o => box c partM (partR (pl o c)) (dotAt m c (pl o c))) l16
    ∗ bag (fun o => room c combM (r16 o)) l16 ∗ bag (fun j : Fin 15 => room (pl j.succ c) prM (r15 j)) l15)

/-- Everything back at the end. -/
def done : sProp 𝕄 := iprop(inputs m c ∗ outHas c (outAt m c) ∗ zeros (F := F) c ∗ bufs (F := F) c)

/-- The first half: the signals, the barrier, the products and the copies to the partner. -/
theorem front_sound {k : Pr F} {Q : PUnit → sProp 𝕄} :
    iprop(Ctx m K ∗ owesC c (O₀ c) ∗ positions c ∗ tokens c ∗ credits c ∗ inputs m c ∗ (∃ f, outHas c f) ∗ bufs c)
      ⊢ iprop(((owesC c (owL (fP c) l15) ∗ sent m c) -∗ WP c k Q)
          -∗ WP c (sigs c l16 (.op (.semWait barS (16#32).toInt) fun _ => prods lDev (xSends c l16 k))) Q) := by
  unfold positions tokens credits bufs
  rw [all_kinds (fun k : Option OK => (atPos ER (kcell c k) 0 ∅ 0 : sProp 𝕄)), own_kinds]
  iintro ⟨#HC, HO, ⟨Pb, Pxs, Pxr, Pps, Ppr⟩, ⟨Tb, Txs, Txr, Tps, Tpr⟩, ⟨Cb, Cxr, Cpr⟩, Hin, Hout, Bpart, Bxr, Bcomb, Bpr⟩ Hk
  ihave Bpart := (part_cut (F := F) c) $$ Bpart
  ihave Bxr := (cut16 (F := F) c xrM (View.set_whole _)) $$ Bxr
  ihave Bcomb := (cut16 (F := F) c combM (View.set_whole _)) $$ Bcomb
  ihave Bpr := (cut15 (F := F) c prM (View.set_whole _)) $$ Bpr
  ihave Hs := (sigNeed_intro m c) $$ [Tb Bxr Bpr]
  · isplitl [Tb]; · iexact Tb
    isplitl [Bxr] <;> iassumption
  unfold O₀
  iapply (sigs_sound m K c (O₁ c) l16) $$ [HO Hs]
  · isplitr; · iexact HC
    isplitl [HO] <;> iassumption
  iintro HO
  iapply (bar_step m K c) $$ [HO Cb Pb]
  · isplitr; · iexact HC
    isplitl [HO]; · iexact HO
    isplitl [Cb]; · iexact Cb
    iexact Pb
  iintro ⟨HO, Zb, Rxr, Rpr⟩
  iapply (prods_sound m c lDev) $$ [Hin Bpart]
  · isplitl [Hin] <;> iassumption
  iintro ⟨Hin, Hparts⟩
  ihave Hparts := (Entails.of_eq (by_planes c fun d => box c partM (partR d) (dotAt m c d))) $$ Hparts
  icases Hparts with ⟨HpA, HpB⟩
  ihave Hx := (xNeed_intro m c) $$ [HpA Rxr Txs Txr]
  · isplitl [HpA]; · iexact HpA
    isplitl [Rxr]; · iexact Rxr
    isplitl [Txs] <;> iassumption
  unfold O₁
  iapply (xSends_sound m K c (owL (fP c) l15) l16) $$ [HO Hx]
  · isplitr; · iexact HC
    isplitl [HO] <;> iassumption
  iintro ⟨HO, Cxs⟩
  iapply Hk
  isplitl [HO]; · iexact HO
  unfold sent
  isplitl [Hin]; · iexact Hin
  isplitl [Hout]; · iexact Hout
  isplitl [Zb]; · iexact Zb
  isplitl [Pxs]; · iexact Pxs
  isplitl [Pxr]; · iexact Pxr
  isplitl [Pps]; · iexact Pps
  isplitl [Ppr]; · iexact Ppr
  isplitl [Cxs]; · iexact Cxs
  isplitl [Cxr]; · iexact Cxr
  isplitl [Cpr]; · iexact Cpr
  isplitl [Tps]; · iexact Tps
  isplitl [Tpr]; · iexact Tpr
  isplitl [HpB]; · iexact HpB
  isplitl [Bcomb] <;> iassumption

/-- The second half. -/
theorem back_sound {Q : PUnit → sProp 𝕄} :
    iprop(Ctx m K ∗ owesC c (owL (fP c) l15) ∗ sent m c)
      ⊢ iprop(((owesC c 0 ∗ done m c) -∗ Q ⟨⟩) -∗ WP c (mids c l15 (tail c)) Q) := by
  unfold sent
  rw [bag16 (fun o => (atPos ER (xrC c o) 0 ∅ 0 : sProp 𝕄)), bag16 (fun o => (cred (tallyAt (xrC c o) () N) : sProp 𝕄)),
    bag16 (fun o => box c partM (partR (pl o c)) (dotAt m c (pl o c))), bag16 (fun o => room (F := F) c combM (r16 o))]
  iintro ⟨#HC, HO, Hin, ⟨%f, Hout⟩, Zb, Pxs, ⟨Pxr0, Pxr⟩, Pps, Ppr, Cxs, ⟨Cxr0, Cxr⟩, Cpr, Tps, Tpr, ⟨Hp0, Hp⟩, ⟨Bc0, Bc⟩, Rpr⟩ Hk
  ihave Hm := (midNeed_intro m c) $$ [Cxr Pxr Hp Bc Rpr Tps Tpr]
  · isplitl [Cxr]; · iexact Cxr
    isplitl [Pxr]; · iexact Pxr
    isplitl [Hp]; · iexact Hp
    isplitl [Bc]; · iexact Bc
    isplitl [Rpr]; · iexact Rpr
    isplitl [Tps] <;> iassumption
  iapply (mids_sound m K c l15) $$ [HO Hm]
  · isplitr; · iexact HC
    isplitl [HO] <;> iassumption
  iintro ⟨HO, Hm⟩
  ihave Hm := (midLeave_elim (F := F) c) $$ Hm
  icases Hm with ⟨Zxr, Hp, Rxr, Cps⟩
  unfold tail
  iapply (wait_free m K c (.xr 0) (fun Q => rfl)) $$ [HO Cxr0 Pxr0]
  · isplitr; · iexact HC
    isplitl [HO]; · iexact HO
    isplitl [Cxr0] <;> iassumption
  iintro ⟨HO, Zxr0, Hxr⟩
  ihave Hp0 := (show box c partM (partR (pl 0 c)) (dotAt m c (pl 0 c)) ⊢ box c partM (partR c) (dotAt m c c) from Entails.of_eq (by rw [pl_zero])) $$ Hp0
  iapply (load_part c c (dotAt m c c) _ (k0_off3_inb c) (off3_eq c)) $$ Hp0; iintro Hp0
  ihave Hxr := (show pay m c (some (.xr 0)) 0 ⊢ box c xrM (r16 0) (dotAt m (partner c) c) from
    Entails.of_eq (show box c xrM (r16 0) (dotAt m (partner c) (pl 0 c)) = _ by rw [pl_zero])) $$ Hxr
  iapply load_box $$ Hxr; iintro Hxr
  ihave Ha := (accNeed_intro (F := F) c) $$ [Cpr Ppr]
  · isplitl [Cpr] <;> iassumption
  iapply (accs_sound m K c l15 (acc₀ (dotAt m c c) (dotAt m (partner c) c))) $$ [HO Ha]
  · isplitr; · iexact HC
    isplitl [HO] <;> iassumption
  iintro ⟨HO, Ha⟩
  ihave Ha := (accLeave_elim (F := F) c) $$ Ha
  icases Ha with ⟨Zpr, Rpr⟩
  iapply (out_step c (siluV (accAt m c)) f) $$ Hout; iintro Hout
  ihave Hx := (xwNeed_intro (F := F) c) $$ [Cxs Pxs]
  · isplitl [Cxs] <;> iassumption
  iapply (xWaits_sound m K c l16) $$ [HO Hx]
  · isplitr; · iexact HC
    isplitl [HO] <;> iassumption
  iintro ⟨HO, Hx⟩
  ihave Hx := (xwLeave_elim (F := F) c) $$ Hx
  icases Hx with ⟨Zxs, RpA⟩
  ihave Hw := (pwNeed_intro (F := F) c) $$ [Cps Pps]
  · isplitl [Cps] <;> iassumption
  iapply (pWaits_sound m K c l15) $$ [HO Hw]
  · isplitr; · iexact HC
    isplitl [HO] <;> iassumption
  iintro ⟨HO, Hw⟩
  ihave Hw := (pwLeave_elim (F := F) c) $$ Hw
  icases Hw with ⟨Zps, Rc⟩
  iapply (WP_ret c Q)
  iapply Hk
  isplitl [HO]; · iexact HO
  unfold done
  isplitl [Hin]; · iexact Hin
  isplitl [Hout]; · unfold outAt; iexact Hout
  isplitl [Zb Zxr Zxr0 Zpr Zxs Zps]
  · unfold zeros
    rw [all_kinds (fun k : Option OK => (semVal (kcell c k) 0 : sProp 𝕄)), own_kinds, bag16 (fun o => (semVal (kcell c (some (.xr o))) 0 : sProp 𝕄))]
    isplitl [Zb]; · iexact Zb
    isplitl [Zxs]; · iexact Zxs
    isplitl [Zxr Zxr0]
    · isplitl [Zxr0] <;> iassumption
    isplitl [Zps] <;> iassumption
  unfold bufs
  isplitl [Hp0 Hp RpA]
  · iapply (part_join (F := F) c (m ((c : Thread nD τ).loc cc0_scratch0)))
    rw [by_planes c (fun d => room (F := F) c partM (partR d)), bag16 (fun o => room (F := F) c partM (partR (pl o c))), pl_zero]
    isplitl [RpA]; · iexact RpA
    isplitl [Hp0]; · iapply (box_room (F := F)); iexact Hp0
    iexact Hp
  isplitl [Hxr Rxr]
  · iapply (join16 (F := F) c xrM (View.set_whole _) (m ((c : Thread nD τ).loc cc0_scratch1)))
    rw [bag16 (fun o => room (F := F) c xrM (r16 o))]
    isplitl [Hxr]; · iapply (box_room (F := F)); iexact Hxr
    iexact Rxr
  isplitl [Bc0 Rc]
  · iapply (join16 (F := F) c combM (View.set_whole _) (m ((c : Thread nD τ).loc cc0_scratch2)))
    rw [bag16 (fun o => room (F := F) c combM (r16 o))]
    isplitl [Bc0] <;> iassumption
  iapply (join15 (F := F) c prM (View.set_whole _) (m ((c : Thread nD τ).loc cc0_scratch3)))
  iexact Rpr

/-- The body on device `c`. -/
theorem prog_sound {Q : PUnit → sProp 𝕄} :
    iprop(Ctx m K ∗ owesC c (O₀ c) ∗ positions c ∗ tokens c ∗ credits c ∗ inputs m c ∗ (∃ f, outHas c f) ∗ bufs c)
      ⊢ iprop(((owesC c 0 ∗ done m c) -∗ Q ⟨⟩) -∗ WP c (prog c) Q) := by
  unfold prog
  iintro ⟨#HC, H⟩ Hk
  iapply (front_sound m K c) $$ [H]
  · isplitr; · iexact HC
    iexact H
  iintro ⟨HO, Hs⟩
  iapply (back_sound m K c) $$ [HO Hs]
  · isplitr; · iexact HC
    isplitl [HO] <;> iassumption
  iexact Hk

end Cert.KernelIdeal.Proto

end
-- ==== Proof.KernelIdeal.Deal.lean ====
/-
# Dealing out the protocol at launch

Every device's cells are set up at once, and each device gets its positions, the tokens of the duties it pays, and the
credit for what others owe it.
-/
module

public import proofs.«01_k».proof.Proof.KernelIdeal.Body

@[expose] public section

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.proofsInPublic true

variable {F : FTy → Type} [FloatOps F]

local notation "𝕄" => MT nD τ sig Unit (Elt F) ℕ UU ℕ

variable (m : (ℓ : Loc nD τ sig) → Buf (Elt F) ℓ) (c : Dev nD)

/-! ## The cells and the tokens -/

theorem kcell_inj {c c' : Dev nD} {k k' : Option OK} (h : kcell c k = kcell c' k') : c = c' ∧ k = k' :=
  ⟨congrArg (fun g : GSem nD τ sig => g.1.1) h, csem_inj (congrArg Prod.snd h)⟩

/-- Every device's cells. -/
def cellEmb : Dev nD × Option OK ↪ GSem nD τ sig :=
  ⟨fun ck => kcell ck.1 ck.2, fun _ _ h => Prod.ext (kcell_inj h).1 (kcell_inj h).2⟩

/-- The duties of a device's cells: sixteen at the barrier's, one at each other. -/
abbrev TK : Type := Fin 16 ⊕ OK

/-- The duty as the protocol names it. -/
def dutyAt (c : Dev nD) : TK → GSem nD τ sig × ℕ × Fin 16
  | .inl d => (kcell c none, 0, d)
  | .inr k => (kcell c (some k), 0, 0)

theorem dutyAt_inj {c c' : Dev nD} {t t' : TK} (h : dutyAt c t = dutyAt c' t') : c = c' ∧ t = t' := by
  rcases t with d | k <;> rcases t' with d' | k'
  · exact ⟨(kcell_inj (congrArg Prod.fst h)).1, congrArg Sum.inl (congrArg (fun x : GSem nD τ sig × ℕ × Fin 16 => x.2.2) h)⟩
  · exact absurd (kcell_inj (congrArg Prod.fst h)).2 (fun h => by cases h)
  · exact absurd (kcell_inj (congrArg Prod.fst h)).2 (fun h => by cases h)
  · have h' := kcell_inj (congrArg Prod.fst h)
    exact ⟨h'.1, congrArg Sum.inr (Option.some.inj h'.2)⟩

def tokEmb : Dev nD × TK ↪ GSem nD τ sig × ℕ × Fin 16 :=
  ⟨fun ct => dutyAt ct.1 ct.2, fun _ _ h => Prod.ext (dutyAt_inj h).1 (dutyAt_inj h).2⟩

def allCells : Finset (GSem nD τ sig) := Finset.univ.map cellEmb
def allToks : Finset (GSem nD τ sig × ℕ × Fin 16) := Finset.univ.map tokEmb

/-- The token of a duty. -/
def tok (c : Dev nD) (t : TK) : sProp 𝕄 := dutyTok ER (dutyAt c t).1 (dutyAt c t).2.1 (dutyAt c t).2.2

/-- Whose duty's token a device gets, of each kind. -/
def payee : TK → (Dev nD ≃ Dev nD)
  | .inl d => sigE d
  | .inr (.xs _) => Equiv.refl _
  | .inr (.xr _) => partnerE
  | .inr (.ps _) => Equiv.refl _
  | .inr (.pr o) => plE o.succ

def lTK : List TK := l16.map Sum.inl ++ lOK.map Sum.inr
theorem lTK_all : (Finset.univ : Finset TK) = lTK.toFinset := by decide +kernel
theorem lTK_nodup : lTK.Nodup := by decide +kernel

theorem tokens_eq : (bigSep Finset.univ fun t : TK => tok (F := F) (payee t c) t) = tokens c := by
  rw [bag_all _ lTK lTK_all lTK_nodup, lTK, bag_append, bag_map, bag_map,
    ← bag_all (fun k : OK => tok (F := F) (payee (.inr k) c) (.inr k)) lOK lOK_all lOK_nodup, own_kinds]
  rfl

/-- Device by device and kind by kind, or kind by kind and device by device. -/
theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), ← bigSep_univ_prod (fun x : B × A => Φ x.2 x.1), bigSep_univ_equiv (Equiv.prodComm A B) (fun x : B × A => Φ x.2 x.1)]
  rfl

/-- Minted by whose cell they are at, the tokens are dealt to those who pay. -/
theorem toks_dealt : (bigSep Finset.univ fun c : Dev nD => bigSep Finset.univ fun t : TK => tok (F := F) c t)
    = bigSep Finset.univ fun c : Dev nD => tokens c := by
  rw [bigSep_swap]
  have h (t : TK) : (bigSep Finset.univ fun c : Dev nD => tok (F := F) c t) = bigSep Finset.univ fun c : Dev nD => tok (F := F) (payee t c) t :=
    bigSep_univ_equiv (payee t) fun c => tok (F := F) c t
  rw [show (fun t : TK => bigSep Finset.univ fun c : Dev nD => tok (F := F) c t)
    = fun t : TK => bigSep Finset.univ fun c : Dev nD => tok (F := F) (payee t c) t from funext h, bigSep_swap]
  exact bigSep_congr fun c _ => tokens_eq c

/-! ## Setting up -/

/-- What the launch's element is dealt as, device by device. -/
def G (c : Dev nD) : sProp 𝕄 :=
  iprop((bigSep Finset.univ fun k : Option OK => roundState ER (sched m) (kcell c k) 0)
    ∗ (bigSep Finset.univ fun k : Option OK => iprop(atPos ER (kcell c k) 0 ∅ 0 ∗ reached ER (kcell c k) 0))
    ∗ bigSep Finset.univ fun t : TK => tok c t)

theorem fund_proto : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Option OK => Φ (kcell c k) := by
    unfold allCells; rw [bigSep_map, bigSep_univ_prod]; rfl
  have hT : bigSep allToks (fun x => (dutyTok ER x.1 x.2.1 x.2.2 : sProp 𝕄)) = bigSep Finset.univ fun c : Dev nD => bigSep Finset.univ fun t : TK => tok c t := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier's semaphore is the one that outlives the kernel. -/
theorem unscopedSems0_eq : (unscopedSems0 c : sProp 𝕄) = semVal (kcell c none) 0 := by
  unfold unscopedSems0; rw [bigSep_eq_bigSepL_of_eq [SemLoc.reg barS] (by decide) (by decide)]; rfl

theorem sems0_eq :
    iprop(unscopedSems0 c ∗ Pipeline.ownSems0 (Ix := Unit) (Name := ℕ) (U := UU) (Lvl := ℕ) (Val := Elt F) (τ := τ) osem c) = zeros (F := F) c := by
  unfold zeros
  rw [unscopedSems0_eq, all_kinds]
  rfl

/-- Every cell's invariant, and that it has reached its first round. -/
def records (K : Dev nD × Option OK → ℕ) : sProp 𝕄 :=
  iprop((bigSep Finset.univ fun ck : Dev nD × Option OK => cellInv ER (sched m) (K ck) (kcell ck.1 ck.2))
    ∗ bigSep Finset.univ fun ck : Dev nD × Option OK => reached ER (kcell ck.1 ck.2) 0)

instance records_persistent (K : Dev nD × Option OK → ℕ) : BI.Persistent (records m K) := by unfold records; infer_instance

/-- What a device has of the protocol afterwards. -/
def G' (c : Dev nD) : sProp 𝕄 := iprop(∃ K, records m K ∗ positions c ∗ tokens c)

/-- One device's cells opened. -/
def opened (c : Dev nD) : sProp 𝕄 :=
  iprop((bigSep Finset.univ fun k : Option OK => iprop(∃ κ : ℕ, cellInv ER (sched m) κ (kcell c k)))
    ∗ (bigSep Finset.univ fun k : Option OK => iprop(atPos ER (kcell c k) 0 ∅ 0 ∗ reached ER (kcell c k) 0))
    ∗ bigSep Finset.univ fun t : TK => tok c t)

theorem cells_alloc : iprop((bigSep Finset.univ fun k : Option OK => semVal (kcell c k) 0) ∗ bigSep Finset.univ fun k : Option OK => roundState ER (sched m) (kcell c k) 0)
    ⊢ (|={Set.univ}=> bigSep Finset.univ fun k => iprop(∃ κ : ℕ, cellInv ER (sched m) κ (kcell c k)) : sProp 𝕄) := by
  rw [← bigSep_sep']
  exact (bigSep_mono fun k _ => (Rounds.body_intro ER (sched m) (kcell c k)).trans inv_alloc).trans (bigSep_fupd _ _)

theorem core_alloc :
    iprop(Pipeline.ownSems0 (Ix := Unit) (Name := ℕ) (U := UU) (Lvl := ℕ) (Val := Elt F) (τ := τ) osem c ∗ unscopedSems0 c ∗ G m c)
      ⊢ |={Set.univ}=> opened m c := by
  unfold G opened
  iintro ⟨Hos, Hus, Hst, Hat, Htok⟩
  ihave Hv := (Entails.of_eq (sems0_eq (F := F) c)) $$ [Hos Hus]
  · isplitl [Hus] <;> iassumption
  unfold zeros
  imod (cells_alloc m c) $$ [Hv Hst] with Hinv
  · isplitl [Hv] <;> iassumption
  imodintro
  isplitl [Hinv]; · iexact Hinv
  isplitl [Hat]; · iexact Hat
  iexact Htok

theorem with_records {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal_intro (K : Dev nD × Option OK → ℕ) : iprop(records m K ∗ positions c ∗ tokens c) ⊢ G' m c := by
  unfold G'
  iintro H
  iexists K; iexact H

theorem regroup : (bigSep Finset.univ (opened m) : sProp 𝕄) ⊢ bigSep Finset.univ (G' m) := by
  delta opened
  rw [bigSep_sep', bigSep_sep', ← bigSep_univ_prod (fun ck : Dev nD × Option OK => iprop(∃ κ : ℕ, cellInv ER (sched m) κ (kcell ck.1 ck.2))),
    bigSep_congr (s := Finset.univ) (fun (c : Dev nD) _ => bigSep_sep' Finset.univ (fun k : Option OK => (atPos ER (kcell c k) 0 ∅ 0 : sProp 𝕄)) (fun k => reached ER (kcell c k) 0)),
    bigSep_sep', ← bigSep_univ_prod (fun ck : Dev nD × Option OK => (reached ER (kcell ck.1 ck.2) 0 : sProp 𝕄)), toks_dealt]
  iintro ⟨HI, ⟨Hat, #HR⟩, Htok⟩
  ihave HK := (BI.bigSep_exists_pi Finset.univ (fun (ck : Dev nD × Option OK) (κ : ℕ) => (cellInv ER (sched m) κ (kcell ck.1 ck.2) : sProp 𝕄))) $$ HI
  icases HK with ⟨%K, #HI⟩
  iapply (with_records (R := records m K) fun c _ => deal_intro m c K)
  isplitr
  · unfold records; isplitl; · iexact HI
    iexact HR
  · iapply (Entails.of_eq (bigSep_sep' Finset.univ (fun c : Dev nD => positions (F := F) c) tokens).symm)
    isplitl [Hat]; · unfold positions; iexact Hat
    iexact Htok

/-- All devices' cells set up, and everything dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- Over all devices, tallies addressed one to each device leave each cell of their kind one. -/
theorem sum_tally (E : Dev nD ≃ Dev nD) (k k' : Option OK) (n : ℕ) :
    ∑ d : Dev nD, (tallyAt (kcell (E d) k') () n : CellTallies nD τ sig Unit) (kcell c k) () = if k = k' then n else 0 := by
  rw [Finset.sum_eq_single (E.symm c)]
  · rw [tallyAt_apply, E.apply_symm_apply]
    refine if_congr ⟨fun h => (kcell_inj h.1).2, fun h => ⟨by rw [h], rfl⟩⟩ rfl rfl
  · intro d _ hd
    rw [tallyAt_apply]
    refine if_neg fun h => hd ?_
    rw [(kcell_inj h.1).1, E.symm_apply_apply]
  · exact fun h => absurd (Finset.mem_univ _) h

theorem sum_owL {A : Type} (f : Dev nD → A → CellTallies nD τ sig Unit) (g : GSem nD τ sig) : ∀ l : List A,
    ∑ d : Dev nD, owL (f d) l g () = (l.map fun a => ∑ d : Dev nD, f d a g ()).sum
  | [] => by
    rw [List.map_nil, List.sum_nil]
    exact Finset.sum_eq_zero fun _ _ => rfl
  | a :: l => by
    rw [List.map_cons, List.sum_cons, ← sum_owL f g l, ← Finset.sum_add_distrib]
    refine Finset.sum_congr rfl fun d _ => ?_
    rw [owL, Pi.add_apply, Finsupp.add_apply, Nat.add_comm]

/-- What all devices together owe a cell. -/
def dueTo (k : Option OK) : ℕ :=
  (l15.map fun o => if k = some (.pr o) then N else 0).sum + (l16.map fun o => if k = some (.xr o) then N else 0).sum
    + (l16.map fun _ => if k = none then 1 else 0).sum

theorem sum_owed (k : Option OK) : ∑ d : Dev nD, O₀ d (kcell c k) () = dueTo k := by
  have hP (o : Fin 15) : ∑ d : Dev nD, fP d o (kcell c k) () = if k = some (.pr o) then N else 0 := sum_tally c (plE o.succ) k (some (.pr o)) N
  have hX (o : Fin 16) : ∑ d : Dev nD, fX d o (kcell c k) () = if k = some (.xr o) then N else 0 := sum_tally c partnerE k (some (.xr o)) N
  have hS (o : Fin 16) : ∑ d : Dev nD, fS d o (kcell c k) () = if k = none then 1 else 0 := sum_tally c (sigE o) k none 1
  have e (d : Dev nD) : O₀ d (kcell c k) () = owL (fP d) l15 (kcell c k) () + owL (fX d) l16 (kcell c k) () + owL (fS d) l16 (kcell c k) () := by
    unfold O₀ O₁
    rw [Pi.add_apply, Finsupp.add_apply, Pi.add_apply, Finsupp.add_apply]
  rw [Finset.sum_congr rfl fun d _ => e d, Finset.sum_add_distrib, Finset.sum_add_distrib, sum_owL, sum_owL, sum_owL]
  unfold dueTo
  simp only [hP, hX, hS]

theorem launch_kind (k : Option OK) :
    tallyOn (kcell c k) (launchCredit (Pipeline.owing O₀) 0 (kcell c k)) = (tallyAt (kcell c k) () (dueTo k) : CellTallies nD τ sig Unit) := by
  unfold tallyAt; refine congrArg _ (Finsupp.ext fun u => ?_); cases u
  rw [Pipeline.launchCredit_owing, Finsupp.single_eq_same, sum_owed]

theorem sum_pick {A : Type} [DecidableEq A] (a : A) (n : ℕ) : ∀ l : List A, l.Nodup → a ∈ l → (l.map fun b => if a = b then n else 0).sum = n
  | b :: l, hl, ha => by
    rw [List.nodup_cons] at hl
    rw [List.map_cons, List.sum_cons]
    by_cases h : a = b
    · subst h
      rw [if_pos rfl, List.sum_eq_zero, Nat.add_zero]
      intro x hx
      obtain ⟨y, hy, rfl⟩ := List.mem_map.mp hx
      exact if_neg fun h : a = y => hl.1 (h ▸ hy)
    · rw [if_neg h, Nat.zero_add]
      exact sum_pick a n l hl.2 ((List.mem_cons.mp ha).resolve_left h)

theorem sum_none {A : Type} (l : List A) (n : A → ℕ) (h : ∀ a ∈ l, n a = 0) : (l.map n).sum = 0 := by
  refine List.sum_eq_zero fun x hx => ?_
  obtain ⟨y, hy, rfl⟩ := List.mem_map.mp hx
  exact h y hy

theorem mem_l16 : ∀ o : Fin 16, o ∈ l16 := by decide
theorem mem_l15 : ∀ o : Fin 15, o ∈ l15 := by decide

theorem due_bar : dueTo none = 16 := by
  unfold dueTo
  rw [sum_none l15 (fun o => if none = some (OK.pr o) then N else 0) (fun o _ => if_neg (fun h => by cases h)),
    sum_none l16 (fun o => if none = some (OK.xr o) then N else 0) (fun o _ => if_neg (fun h => by cases h))]
  decide
theorem due_xr (o : Fin 16) : dueTo (some (.xr o)) = N := by
  unfold dueTo
  rw [sum_none l15 (fun o' => if some (OK.xr o) = some (OK.pr o') then N else 0) (fun o' _ => if_neg (fun h => by cases h)),
    sum_none l16 (fun _ => if some (OK.xr o) = none then 1 else 0) (fun o' _ => if_neg (fun h => by cases h)),
    show (fun o' : Fin 16 => if some (OK.xr o) = some (OK.xr o') then N else 0) = (fun o' => if o = o' then N else 0) from
      (funext fun o' => if_congr ⟨fun h => by cases h; rfl, fun h => by rw [h]⟩ rfl rfl), sum_pick o N l16 l16_nodup (mem_l16 o), Nat.zero_add, Nat.add_zero]
theorem due_pr (o : Fin 15) : dueTo (some (.pr o)) = N := by
  unfold dueTo
  rw [sum_none l16 (fun o' => if some (OK.pr o) = some (OK.xr o') then N else 0) (fun o' _ => if_neg (fun h => by cases h)),
    sum_none l16 (fun _ => if some (OK.pr o) = none then 1 else 0) (fun o' _ => if_neg (fun h => by cases h)),
    show (fun o' : Fin 15 => if some (OK.pr o) = some (OK.pr o') then N else 0) = (fun o' => if o = o' then N else 0) from
      (funext fun o' => if_congr ⟨fun h => by cases h; rfl, fun h => by rw [h]⟩ rfl rfl), sum_pick o N l15 l15_nodup (mem_l15 o), Nat.add_zero]

theorem creds : (Pipeline.launchCred O₀ c : sProp 𝕄) ⊢ credits c := by
  have h : (Pipeline.launchCred O₀ c : sProp 𝕄) ⊢ bigSep Finset.univ fun k : Option OK => cred (tallyAt (kcell c k) () (dueTo k)) := by
    unfold Pipeline.launchCred
    refine (bigSep_subset (Finset.subset_univ (Finset.univ.map ⟨csem, csem_inj⟩))).trans ?_
    rw [bigSep_map]
    exact bigSep_mono fun k _ => Entails.of_eq (congrArg cred (launch_kind c k))
  refine h.trans ?_
  rw [all_kinds, own_kinds, due_bar]
  simp only [due_xr, due_pr]
  unfold credits
  iintro ⟨Hb, -, Hx, -, Hp⟩
  isplitl [Hb]; · iexact Hb
  isplitl [Hx]; · iexact Hx
  iexact Hp

end Cert.KernelIdeal.Proto

end
-- ==== Proof.KernelIdeal.Launch.lean ====
/-
# The launch

The body's proof is put under the pipeline that stages the operands and writes the result back, and the protocol under
the launch of all devices: every run ends, the inputs are as they were, the result's rows are the ones computed, and
every counter is back at zero.
-/
module

public import proofs.«01_k».proof.Proof.KernelIdeal.Deal
public import proofs.«01_k».proof.Proof.Gen.KernelIdeal.Frame
public import Idealize.ShloMosaic.Lib.Pipeline.CollectiveSegs

@[expose] public section

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

set_option backward.proofsInPublic true

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## What the pipeline is told -/

/-- The machine at the start. -/
def atStart : MemSt nD τ sig (Elt F) := ⟨m, fun _ => 0, ρ⟩

/-- What a device starts from. -/
def start : sProp 𝕄 := iprop(G' m c ∗ credits c ∗ levAts L lv)

/-- Before the body, and after it. -/
def Φ₀ : sProp 𝕄 := iprop(start m c ∗ bufs (F := F) c)
def Φ₁ : sProp 𝕄 := iprop(zeros (F := F) c ∗ bufs (F := F) c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A whole buffer owned is its points-to. -/
theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  rw [Memref.view_whole, View.set_whole]
  simp only [View.read_whole]

/-- A buffer that has the contents `X`. -/
abbrev holds (b : Ref sig .tc) (X : b.ty.Contents (Elt F)) : sProp 𝕄 :=
  iprop(∃ f : Buf (Elt F) ((c : Thread nD τ).loc b), ⌜f = X⌝ ∗ (((c : Thread nD τ).loc b) ↦{fullShare} f))

theorem holds_elim (b : Ref sig .tc) (X : b.ty.Contents (Elt F)) :
    holds c b X ⊢ ((((c : Thread nD τ).loc b) ↦{fullShare} (X : Buf (Elt F) ((c : Thread nD τ).loc b))) : sProp 𝕄) := by
  iintro ⟨%f, %h, H⟩
  subst h; iexact H
theorem holds_intro (b : Ref sig .tc) (X : b.ty.Contents (Elt F)) :
    ((((c : Thread nD τ).loc b) ↦{fullShare} (X : Buf (Elt F) ((c : Thread nD τ).loc b))) : sProp 𝕄) ⊢ holds c b X := by
  iintro H
  iexists X
  isplitr; · (ipureintro; rfl)
  iexact H

theorem holds_pts (b : Ref sig .tc) (X : b.ty.Contents (Elt F)) :
    holds c b X = ((((c : Thread nD τ).loc b) ↦{fullShare} (X : Buf (Elt F) ((c : Thread nD τ).loc b))) : sProp 𝕄) :=
  Idealize.SL.BI.Entails.antisymm (holds_elim c b X) (holds_intro c b X)

theorem before_x (d : _) : (dats m 0 c).before (0 : Fin 3) t0_0 d = xstg m c := by
  unfold Dat.before; rw [if_pos (fetch0_0 t0_0)]; rfl
theorem before_w (d : _) : (dats m 0 c).before (1 : Fin 3) t0_0 d = wstg m c := by
  unfold Dat.before; rw [if_pos (fetch0_1 t0_0)]; rfl

def bodyPre : sProp 𝕄 :=
  iprop(Φ₀ m c ∗ (dats m 0 c).owesAt () t0_0.castSucc
    ∗ (∃ d, holds c cc0_stg0_0 ((dats m 0 c).before (0 : Fin 3) t0_0 d))
    ∗ (∃ d, holds c cc0_stg1_0 ((dats m 0 c).before (1 : Fin 3) t0_0 d))
    ∗ (∃ d, holds c cc0_stg2_0 ((dats m 0 c).before (2 : Fin 3) t0_0 d)))

def bodyPost : sProp 𝕄 :=
  iprop(Φ₁ c ∗ (dats m 0 c).owesAt () t0_0.succ ∗ holds c cc0_stg0_0 (xstg m c) ∗ holds c cc0_stg1_0 (wstg m c) ∗ holds c cc0_stg2_0 (outAt m c))

/-- What is owed on the way in and on the way out. -/
theorem owes_in : (dats m 0 c).owesAt () t0_0.castSucc ⊢ owesC (F := F) c (O₀ c) := by
  unfold Dat.owesAt Pipeline.owesWithin owesC
  rw [show (dats m 0 c).owed t0_0.castSucc = O₀ c from rfl]
  iintro ⟨%W, -, H⟩
  iexists W; iexact H
theorem owes_out : owesC (F := F) c 0 ⊢ (dats m 0 c).owesAt () t0_0.succ := by
  unfold Dat.owesAt Pipeline.owesWithin owesC
  rw [show (dats m 0 c).owed t0_0.succ = 0 from rfl]
  iintro ⟨%W, H⟩
  iexists W
  isplitr; · (ipureintro; exact fun _ _ => Or.inl trivial)
  iexact H

theorem bodyPost_intro : iprop(owesC c 0 ∗ done m c) ⊢ bodyPost m c := by
  unfold done bodyPost Φ₁ inputs outHas
  rw [holds_pts, holds_pts, holds_pts]
  iintro ⟨HO, ⟨Hx, Hw⟩, Hout, Hz, Hb⟩
  isplitl [Hz Hb]
  · isplitl [Hz] <;> iassumption
  isplitl [HO]; · iapply (owes_out m c); iexact HO
  isplitl [Hx]; · iexact Hx
  isplitl [Hw]; · iexact Hw
  iexact Hout

theorem body_runs : bodyPre m c ⊢ WP c (prog c) (fun _ => bodyPost m c) := by
  unfold bodyPre Φ₀ start G' records
  simp only [before_x, before_w, holds_pts]
  iintro ⟨⟨⟨⟨%K, ⟨HI, HR⟩, Hp, Ht⟩, Hc, Hl⟩, Hb⟩, HO, ⟨%d0, Hx⟩, ⟨%d1, Hw⟩, ⟨%d2, Hout⟩⟩
  iapply (prog_sound m K c) $$ [HI HR Hp Ht Hc Hl Hb HO Hx Hw Hout]
  · isplitl [HI HR Hl]
    · unfold Ctx
      isplitl [HI]; · iexact HI
      isplitl [HR] <;> iassumption
    isplitl [HO]; · iapply (owes_in m c); iexact HO
    isplitl [Hp]; · iexact Hp
    isplitl [Ht]; · iexact Ht
    isplitl [Hc]; · iexact Hc
    isplitl [Hx Hw]
    · unfold inputs
      isplitl [Hx] <;> iassumption
    isplitl [Hout]
    · iexists _; unfold outHas; iexact Hout
    iexact Hb
  iintro H
  iapply (bodyPost_intro m c)
  iexact H

set_option maxRecDepth 100000 in
theorem body_obligation : BodyObligation (dats (F := F) m 0 c) (defs₀ (F := F)) 𝒱₀ () Set.univ := fun t => by
  rw [fin_N0 t]
  rw [bigSep_W0, bigSep_W0]
  simp only [owns_whole]
  show bodyPre m c ⊢ wp frame (wpE (defs₀ (F := F)) 𝒱₀ c none) Set.univ
    (cc0_body (F := F) xM (Memref.isWhole_whole _) wM (Memref.isWhole_whole _) oM (Memref.isWhole_whole _)
      partM (Memref.isWhole_whole _) xrM (Memref.isWhole_whole _) combM (Memref.isWhole_whole _) prM (Memref.isWhole_whole _)
      cc0_scratch4 cc0_scratch5 cc0_scratch6 cc0_scratch7) (fun _ => bodyPost m c)
  rw [body_eq, wp_deviceId]
  exact body_runs m c

/-! ## The launch's side conditions -/

theorem ownSemFacts : Pipeline.OwnSemFacts cfg0.spec osem := by decide +kernel

theorem share_eq (w : Fin cfg0.W) : (dats m 0 c).share w = fullShare := by unfold Dat.share; split <;> rfl

def u₀ : UU := (initOf (Pipeline.cells cfgs cellOf_inj) (Pipeline.launchToks cfgs cellOf_inj), initOf allCells allToks)

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hl, Hc, -, HG⟩
  ihave Hc := (creds (F := F) c) $$ Hc
  imodintro
  unfold start
  isplitl
  · isplitl [HG]; · iexact HG
    isplitl [Hc] <;> iassumption
  iempintro

/-- The buffers of slabs are what the kernel has besides the staged ones. -/
theorem bufs_eq : (Pipeline.scopedRest (Ix := Unit) (Name := ℕ) (U := UU) (Lvl := ℕ) (Val := Elt F) cfg0.spec c : sProp 𝕄) = bufs (F := F) c :=
  scopedRest0_eq c

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, bufs_eq]
  unfold Φ₀
  iintro ⟨Hs, -, Hb⟩
  isplitl [Hs] <;> iassumption

theorem phi1_exit :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, bufs_eq]
  unfold Φ₁
  rw [← sems0_eq]
  iintro ⟨⟨Hu, Ho⟩, Hb⟩
  isplitl [Hu]; · iexact Hu
  isplitl [Ho] <;> iassumption

theorem kindOf_none {s : SemLoc sig} (h : ∀ k, csem k ≠ s) : kindOf s = none := by
  unfold kindOf
  rw [dif_neg fun ⟨k, hk⟩ => h k hk]

/-- The staging semaphores are none of the protocol's. -/
theorem stage_none (w : Fin cfg0.W) (s : Fin (cfg0.spec w).nbuf) : kindOf (.dma ((cfg0.spec w).sem s)) = none :=
  kindOf_none fun k => by
    cases k with
    | none => exact fun h => by cases h
    | some k => exact ownSemFacts.disj k w s

theorem mayWait_stage (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · exact mayWait c _ 0 (by rw [hq]; exact Nat.le_refl 0) _ fun _ _ => O₀_pos
  · rw [MayWait_zero]; iintro -; iempintro

theorem waits : (levAts L lv : sProp 𝕄) ⊢ Pipeline.cellsWaits cfgs (dats m) () 0 c :=
  Pipeline.cellsWaits_intro cfgs (dats m) () 0 c fun w s t =>
    mayWait_stage c _ (stage_none w s) _ (by
      rcases t with ⟨_ | _, ht⟩
      · exact Or.inl rfl
      · exact Or.inr rfl)

/-! ## The run -/

/-- What an operand's array holds at the end. -/
def finalA (c : Dev nD) (w : Fin cfg0.W) : Buf (Elt F) ((cfg0.win w).arr.view.loc (c : Thread nD τ)) := (dats m 0 c).arrAt w cfg0.N

set_option maxRecDepth 100000 in
/-- Every run ends with every array at its final contents and every counter at zero. -/
theorem run_main : θ_run defs (onTc (τ := τ) (main (F := F))) (atStart m ρ)
    (fun r => (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x : finalA m c (0 : Fin 3) = m ((c : Thread nD τ).loc main_arg0) := (dats (F := F) m 0 c).arrAt_in (0 : Fin 3) rfl _
theorem final_w : finalA m c (1 : Fin 3) = m ((c : Thread nD τ).loc main_arg1) := (dats (F := F) m 0 c).arrAt_in (1 : Fin 3) rfl _

/-- The frame. -/
theorem quiescent : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  (θ_run defs _ _).mono (fun _ h => ⟨fun c => ⟨(h.1 c 0).trans (final_x m c), (h.1 c 1).trans (final_w m c)⟩, h.2⟩) (run_main m ρ)

end Cert.KernelIdeal.Proto

end
-- ==== Proof.KernelIdeal.Value.lean ====
/-
# The value

What each device's rows of the result are, read over the extended reals: the products of all the devices, summed, and
then `y · logistic y`. The thirty-two products are added up in the order the kernel adds them and then reordered into one
sum over the devices.
-/
module

public import proofs.«01_k».proof.Proof.KernelIdeal.Launch
public import proofs.«01_k».proof.Proof.Gen.ReferenceIdeal.Run
public import Idealize.ShloMosaic.Lib.Pipeline.ValueKit
public import Idealize.ShloMosaic.Lib.ValueIdx
public import Idealize.ShloMosaic.Lib.ValueLayout
public import Idealize.ShloMosaic.Lib.MatmulPlain
public import Idealize.ShloMosaic.Lib.IdealHost
public import Idealize.ShloMosaic.Lib.StackMember
public import Idealize.ShloMosaic.Lib.Layout

@[expose] public section

noncomputable section

namespace Cert.KernelIdeal.Proto

open Cert.KernelIdeal Cert.KernelIdeal.Gen
open Idealize.ShloMosaic hiding eq_ix2 ix0 ix1 ix2 ix3 addf_apply extf_apply truncf_apply constant_apply mulf_apply negf_apply divf_apply
open Idealize.ShloMosaic.ValueIdx
open Idealize.ShloMosaic.TcCoe
open scoped BigOperators

section AnyFloats

variable {F : FTy → Type} [FloatOps F]
variable (m : (ℓ : Loc nD τ sig) → Buf (Elt F) ℓ) (c : Dev nD)

/-- The result's array ends holding the rows computed. -/
theorem final_out : finalA m c (2 : Fin 3) = outAt m c := by
  refine (dats m 0 c).arrAt_eq_of_after_last (2 : Fin 3) t0_0 (by decide +kernel) _ fun j => ?_
  blk_simp
  rfl

theorem xstg_at (p : Dev nD) (j : S1024x32.Idx) : xstg m p j = m ((p : Thread nD τ).loc main_arg0) j := by
  refine congrArg (m ((p : Thread nD τ).loc main_arg0)) (funext fun a => Fin.ext ?_)
  fin_cases a <;> simp <;> rfl

theorem wstg_at (p : Dev nD) (j : S32x1024.Idx) : wstg m p j = m ((p : Thread nD τ).loc main_arg1) j := by
  refine congrArg (m ((p : Thread nD τ).loc main_arg1)) (funext fun a => Fin.ext ?_)
  fin_cases a <;> simp <;> rfl

/-- Row `r` of device `d`'s 32 rows, of 1024. -/
def rowOf (d : Dev nD) (r : Fin 32) : Fin 1024 := ⟨32 * d.val + r.val, by have := d.isLt; have := r.isLt; simp only [nD] at *; omega⟩

theorem xread_at (f : (cc0_stg0_0 : Ref sig .tc).ty.Contents (Elt F)) (d : Dev nD) (r k : Fin 32) :
    (xM.access (xR d)).read (Elt F) f (ix2 r k) = f (ix2 (rowOf d r) k) := by
  refine congrArg f (funext fun a => Fin.ext ?_)
  fin_cases a <;> simp [rowOf, xR, xM]

theorem wread_at (f : (cc0_stg1_0 : Ref sig .tc).ty.Contents (Elt F)) (k : Fin 32) (l : Fin 1024) :
    (wM.access wR).read (Elt F) f (ix2 k l) = f (ix2 k l) := by
  refine congrArg f (funext fun a => Fin.ext ?_)
  fin_cases a <;> simp [wR, wM]

end AnyFloats

/-! ## Over the extended reals -/

section OverEReal

variable (m : (ℓ : Loc nD τ sig) → Buf (Elt Ideal) ℓ) (c : Dev nD)

/-- Device `p`'s columns of the left factor. -/
def xOf (p : Dev nD) : S1024x32.Idx → EReal := m ((p : Thread nD τ).loc main_arg0)
/-- Device `p`'s rows of the right factor. -/
def wOf (p : Dev nD) : S32x1024.Idx → EReal := m ((p : Thread nD τ).loc main_arg1)

/-- An entry of device `p`'s product for device `d`'s rows. -/
def term (p d : Dev nD) (r : Fin 32) (l : Fin 1024) : EReal :=
  ∑ k : Fin 32, xOf m p (ix2 (rowOf d r) k) * wOf m p (ix2 k l)

theorem prodV_at (x : Vec Ideal S32x32 .bf16) (w : Vec Ideal S32x1024 .bf16) (u : Fin 1) (r : Fin 32) (l : Fin 1024) :
    prodV x w (ix3 u r l) = ∑ k : Fin 32, x (ix2 r k) * w (ix2 k l) := by
  unfold prodV k0_pay1
  refine (shapeCast_ab_1ab_apply _ _ u r l).trans ?_
  rw [shapeCast_self, shapeCast_self, truncf_apply]
  refine (Ideal.matmul_plain_apply none x w _ r l).trans ?_
  rw [constant_apply]
  simp

theorem dotAt_at (p d : Dev nD) (u : Fin 1) (r : Fin 32) (l : Fin 1024) : dotAt m p d (ix3 u r l) = term m p d r l :=
  (prodV_at _ _ u r l).trans (Finset.sum_congr rfl fun k _ => by rw [xread_at, wread_at, xstg_at, wstg_at]; rfl)

theorem combAt_at (q d : Dev nD) (u : Fin 1) (r : Fin 32) (l : Fin 1024) :
    combAt m q d (ix3 u r l) = term m q d r l + term m (partner q) d r l := by
  unfold combAt sumV k0_pay39
  refine (shapeCast_ab_1ab_apply _ _ u r l).trans ?_
  rw [truncf_apply, addf_apply, extf_apply, extf_apply, shapeCast_1ab_ab_apply, shapeCast_1ab_ab_apply, dotAt_at, dotAt_at]

theorem acc₀_at (a b : Vec Ideal S1x32x1024 .bf16) (r : Fin 32) (l : Fin 1024) :
    acc₀ a b (ix2 r l) = a (ix3 0 r l) + b (ix3 0 r l) := by
  unfold acc₀ k0_pay57
  rw [addf_apply, extf_apply, extf_apply, shapeCast_1ab_ab_apply, shapeCast_1ab_ab_apply]

theorem accStep_at (acc : FVec Ideal S32x1024 .f32) (v : Vec Ideal S1x32x1024 .bf16) (r : Fin 32) (l : Fin 1024) :
    accStep acc v (ix2 r l) = acc (ix2 r l) + v (ix3 0 r l) := by
  unfold accStep k0_pay62
  rw [addf_apply, extf_apply, shapeCast_1ab_ab_apply]

/-- Adding up a list of blocks adds up their entries. -/
theorem accs_at (L : List (Vec Ideal S1x32x1024 .bf16)) (acc : FVec Ideal S32x1024 .f32) (r : Fin 32) (l : Fin 1024) :
    L.foldl accStep acc (ix2 r l) = acc (ix2 r l) + ((L.map fun v => (v (ix3 0 r l) : EReal)).sum : EReal) := by
  induction L generalizing acc with
  | nil => simp
  | cons v L ih => rw [List.foldl_cons, ih, accStep_at, List.map_cons, List.sum_cons, add_assoc]

/-- The devices in the order in which device `c` adds up their products. -/
def order (c : Dev nD) : List (Dev nD) := c :: partner c :: l15.flatMap fun o => [pl (-o.succ) c, partner (pl (-o.succ) c)]
theorem order_all : ∀ c : Dev nD, (order c).toFinset = Finset.univ := by decide +kernel
theorem order_nodup : ∀ c : Dev nD, (order c).Nodup := by decide +kernel

theorem sum_pairs {A B : Type} [AddCommMonoid B] (f : A → B) {I : Type} (g h : I → A) (L : List I) :
    ((L.flatMap fun o => [g o, h o]).map f).sum = (L.map fun o => f (g o) + f (h o)).sum := by
  induction L with
  | nil => rfl
  | cons o L ih => simp [ih, add_assoc]

/-- What device `c` has added up: the products of all the devices. -/
theorem accAt_at (r : Fin 32) (l : Fin 1024) : accAt m c (ix2 r l) = ∑ p : Dev nD, term m p c r l := by
  rw [← order_all c, List.sum_toFinset _ (order_nodup c)]
  unfold accAt order
  rw [accs_at, acc₀_at, dotAt_at, dotAt_at, List.map_map, List.map_cons, List.map_cons, List.sum_cons, List.sum_cons, sum_pairs, ← add_assoc]
  refine congrArg _ (congrArg List.sum (List.map_congr_left fun o _ => ?_))
  exact combAt_at m _ c 0 r l

/-- `y · logistic y` is `y / (1 + exp (-y))`. -/
theorem silu_div (y : EReal) : y * Ideal.logistic y = Ideal.div y (1 + Ideal.exp (-y)) := by
  unfold Ideal.logistic
  refine Ideal.mul_one_div ?_
  induction -y with
  | bot => simp
  | top => rw [Ideal.exp_top, ← EReal.coe_one, EReal.add_top_of_ne_bot (EReal.coe_ne_bot 1)]; exact EReal.top_ne_zero
  | coe z =>
    rw [Ideal.exp_coe, ← EReal.coe_one, ← EReal.coe_add]
    exact_mod_cast (add_pos one_pos (Real.exp_pos z)).ne'

theorem outAt_at (r : Fin 32) (l : Fin 1024) :
    outAt m c (ix2 r l) = Ideal.div (∑ p : Dev nD, term m p c r l) (1 + Ideal.exp (-∑ p : Dev nD, term m p c r l)) := by
  rw [← accAt_at, ← silu_div]
  rfl

/-! ## Against the whole arrays -/

/-- The reference's `y`: the whole product, rounded to bf16. -/
def refY (X W : FVec Ideal Cert.ReferenceIdeal.S1024x1024 .bf16) : FVec Ideal Cert.ReferenceIdeal.S1024x1024 .f32 :=
  extf .f32 (truncf .bf16 (Host.dotGeneral Cert.ReferenceIdeal.dot_S1024x1024_S1024x1024_S1024x1024_1_0_0_1_n_n none X W)
    Cert.ReferenceIdeal.Gen.bitsLt_bf16_f32) Cert.ReferenceIdeal.Gen.bitsLt_bf16_f32

/-- The reference's result: `y / (1 + exp (-y))`. -/
def refOut (X W : FVec Ideal Cert.ReferenceIdeal.S1024x1024 .bf16) : FVec Ideal Cert.ReferenceIdeal.S1024x1024 .f32 :=
  Host.divf (refY X W) (addf (broadcastInDim Cert.ReferenceIdeal.S1024x1024 ![] Cert.ReferenceIdeal.Gen.bcast_S_S1024x1024 (constant Cert.ReferenceIdeal.S_ .f32 0x3F800000#32))
    (Host.exp (Host.negf (refY X W))))

theorem refY_at (X W : Cert.ReferenceIdeal.S1024x1024.Idx → EReal) (i l : Fin 1024) :
    refY X W (ix2 i l) = ∑ k : Fin 1024, X (ix2 i k) * W (ix2 k l) := by
  unfold refY
  rw [extf_apply, truncf_apply]
  exact StackMember.dotGeneral_plain_apply (φ₁ := .bf16) (φ₂ := .bf16) none X W i l

theorem refOut_at (X W : Cert.ReferenceIdeal.S1024x1024.Idx → EReal) (i l : Fin 1024) :
    refOut X W (ix2 i l) = Ideal.div (∑ k : Fin 1024, X (ix2 i k) * W (ix2 k l)) (1 + Ideal.exp (-∑ k : Fin 1024, X (ix2 i k) * W (ix2 k l))) := by
  unfold refOut
  rw [hostDivf_apply, addf_apply, broadcastInDim_scalar_apply, constant_apply]
  have e : ∀ D : FVec Ideal Cert.ReferenceIdeal.S1024x1024 .f32, Host.exp (Host.negf D) (ix2 i l) = Ideal.exp (-D (ix2 i l)) := fun _ => rfl
  rw [e, refY_at]
  exact congrArg (fun o : EReal => Ideal.div _ (o + _)) Ideal.ofBits_one_f32

/-- A sum over 1024 is a sum over the devices of sums over 32. -/
theorem sum_blocks (f : Fin 1024 → EReal) : ∑ k : Fin 1024, f k = ∑ p : Dev nD, ∑ k : Fin 32, f (rowOf p k) := by
  rw [← Fintype.sum_prod_type' fun (p : Fin 32) (k : Fin 32) => f (rowOf p k)]
  refine (Equiv.sum_comp (finProdFinEquiv (m := 32) (n := 32)) f).symm.trans (Finset.sum_congr rfl fun pk _ => congrArg f (Fin.ext ?_))
  show pk.2.val + 32 * pk.1.val = 32 * pk.1.val + pk.2.val
  omega

/-- Where the devices hold their blocks of the two factors, device `c` computes its block of the reference's result. -/
theorem outAt_block (X W : Cert.ReferenceIdeal.S1024x1024.Idx → EReal)
    (hX : ∀ p : Dev nD, xOf m p = Layout.block ⟨2, ![1024, 32]⟩ ⟨2, ![1024, 1024]⟩ 1 32 p X)
    (hW : ∀ p : Dev nD, wOf m p = Layout.block ⟨2, ![32, 1024]⟩ ⟨2, ![1024, 1024]⟩ 0 32 p W) :
    outAt m c = Layout.block ⟨2, ![32, 1024]⟩ ⟨2, ![1024, 1024]⟩ 0 32 c (refOut X W) := by
  funext j
  have ht : ∀ (r : Fin 32) (l : Fin 1024), ∑ p : Dev nD, term m p c r l = ∑ k : Fin 1024, X (ix2 (rowOf c r) k) * W (ix2 k l) := fun r l => by
    rw [sum_blocks]
    refine Finset.sum_congr rfl fun p _ => Finset.sum_congr rfl fun k _ => ?_
    rw [hX, hW, Layout.block_apply, Layout.block_apply]
    congr 1
    · refine congrArg X (funext fun a => Fin.ext ?_)
      fin_cases a <;> simp [Layout.Tiles.idx_val, rowOf, Nat.mul_comm]
    · refine congrArg W (funext fun a => Fin.ext ?_)
      fin_cases a <;> simp [Layout.Tiles.idx_val, rowOf, Nat.mul_comm]
  obtain ⟨r, l, rfl⟩ : ∃ (r : Fin 32) (l : Fin 1024), j = ix2 r l := ⟨j 0, j 1, eq_ix2 j⟩
  rw [outAt_at, ht, Layout.block_apply, ← refOut_at]
  refine congrArg (refOut X W) (funext fun a => Fin.ext ?_)
  fin_cases a <;> simp [Layout.Tiles.idx_val, rowOf, Nat.mul_comm]

end OverEReal

end Cert.KernelIdeal.Proto
-- ==== Proof.lean ====
/-
# The five claims

Both readings of the kernel, and the reference, run and end with their inputs unchanged and every counter at zero; the
ideal reading is the kernel's own text; and over the extended reals each device ends with its block of rows of the
reference's result.
-/
module

public import proofs.«01_k».proof.Defs
public import proofs.«01_k».proof.Proof.Gen.ReferenceIdeal.Run
public import proofs.«01_k».proof.Proof.Kernel.Launch
public import proofs.«01_k».proof.Proof.KernelIdeal.Launch
public import proofs.«01_k».proof.Proof.KernelIdeal.Value

@[expose] public section

noncomputable section

namespace Cert.Proof

open Idealize.ShloMosaic Idealize.SL.Sem

theorem frame_kernel : Cert.quiescent_Kernel := fun m g _ => Cert.Kernel.Proto.quiescent m g

theorem frame_ideal : Cert.quiescent_KernelIdeal := fun m g _ => Cert.KernelIdeal.Proto.quiescent m g

theorem frame_reference : Cert.quiescent_ReferenceIdeal := fun m g _ =>
  (θ_run Cert.ReferenceIdeal.defs _ _).mono (fun r h => ⟨fun c => ⟨(h c).2.1, (h c).2.2⟩, sem_eq_zero_of_no_sems (by decide) r.2⟩)
    (Cert.ReferenceIdeal.Value.run m g)

/-- The kernel's result is the reference's, each device holding its block of rows. -/
theorem algebraic : Cert.algebraic_KernelIdeal_ReferenceIdeal := fun m g m' g' _ hm =>
  ⟨Cert.KernelIdeal.Proto.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c 2).trans (Cert.KernelIdeal.Proto.final_out m c)).trans
          (Cert.KernelIdeal.Proto.outAt_block m c _ _ (fun p => (hm p).1) (fun p => (hm p).2)),
        (h.1 c 0).trans (Cert.KernelIdeal.Proto.final_x m c), (h.1 c 1).trans (Cert.KernelIdeal.Proto.final_w m c)⟩)
      (Cert.KernelIdeal.Proto.run_main m g),
    (θ_run Cert.ReferenceIdeal.defs _ _).mono (fun _ h => h 0) (Cert.ReferenceIdeal.Value.run m' g')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
